-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![2048, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S2048x512 : Shape := ⟨2, ![2048, 512]⟩
abbrev S1984x512 : Shape := ⟨2, ![1984, 512]⟩
abbrev S31 : Shape := ⟨1, ![31]⟩
abbrev S_ : Shape := ⟨0, ![]⟩
abbrev S1 : Shape := ⟨1, ![1]⟩
abbrev S2048x1024 : Shape := ⟨2, ![2048, 1024]⟩

abbrev nBuf : Space → Nat
  | .hbm => 8
  | .vmem => 11
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S2048x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S1984x512, .f32⟩
  | _, _ => ⟨S64x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v21 : BitVec 32 := Scalar.muli v2 c64_i32
  let v22 : Index := Scalar.indexCast v21
  let c0_16 : Index := 0#32
  ![v22.toNat, 0]
def k0_off2 (d0 : Dev nD) (c0_i32_18 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v27 : BitVec 32 := Scalar.xori v2 c0_i32_18
  let c64_i32_21 : BitVec 32 := 64#32
  let v30 : BitVec 32 := Scalar.muli v27 c64_i32_21
  let c0_i32_26 : BitVec 32 := 0#32
  ![v30.toNat, 0]
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_17 : BitVec 32 := 16#32
  let v26 : BitVec 32 := Scalar.xori v2 c16_i32_17
  let c1_i32_24 : BitVec 32 := 1#32
  let v31 : BitVec 32 := Scalar.muli v26 c1_i32_24
  let v32 : BitVec 32 := Scalar.addi c0_i32_25 v31
  v32.toNat
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_36 : BitVec 32 := 4#32
  let v47 : BitVec 32 := Scalar.xori v2 c4_i32_36
  let c1_i32_43 : BitVec 32 := 1#32
  let v52 : BitVec 32 := Scalar.muli v47 c1_i32_43
  let v53 : BitVec 32 := Scalar.addi c0_i32_44 v52
  v53.toNat
def k0_dev8 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_36 : BitVec 32 := 4#32
  let v47 : BitVec 32 := Scalar.xori v2 c4_i32_36
  let c1_i32_54 : BitVec 32 := 1#32
  let v66 : BitVec 32 := Scalar.muli v47 c1_i32_54
  let v67 : BitVec 32 := Scalar.addi c0_i32_55 v66
  v67.toNat
def k0_dev9 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_72 : BitVec 32 := 2#32
  let v88 : BitVec 32 := Scalar.xori v2 c2_i32_72
  let c1_i32_78 : BitVec 32 := 1#32
  let v93 : BitVec 32 := Scalar.muli v88 c1_i32_78
  let v94 : BitVec 32 := Scalar.addi c0_i32_79 v93
  v94.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_72 : BitVec 32 := 2#32
  let v88 : BitVec 32 := Scalar.xori v2 c2_i32_72
  let c1_i32_89 : BitVec 32 := 1#32
  let v107 : BitVec 32 := Scalar.muli v88 c1_i32_89
  let v108 : BitVec 32 := Scalar.addi c0_i32_90 v107
  v108.toNat
def k0_dev11 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_72 : BitVec 32 := 2#32
  let v88 : BitVec 32 := Scalar.xori v2 c2_i32_72
  let c1_i32_100 : BitVec 32 := 1#32
  let v121 : BitVec 32 := Scalar.muli v88 c1_i32_100
  let v122 : BitVec 32 := Scalar.addi c0_i32_101 v121
  v122.toNat
def k0_dev12 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_72 : BitVec 32 := 2#32
  let v88 : BitVec 32 := Scalar.xori v2 c2_i32_72
  let c1_i32_111 : BitVec 32 := 1#32
  let v135 : BitVec 32 := Scalar.muli v88 c1_i32_111
  let v136 : BitVec 32 := Scalar.addi c0_i32_112 v135
  v136.toNat
def k0_dev13 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v169 : BitVec 32 := Scalar.xori v2 c8_i32_141
  let c1_i32_147 : BitVec 32 := 1#32
  let v174 : BitVec 32 := Scalar.muli v169 c1_i32_147
  let v175 : BitVec 32 := Scalar.addi c0_i32_148 v174
  v175.toNat
def k0_dev14 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v169 : BitVec 32 := Scalar.xori v2 c8_i32_141
  let c1_i32_158 : BitVec 32 := 1#32
  let v188 : BitVec 32 := Scalar.muli v169 c1_i32_158
  let v189 : BitVec 32 := Scalar.addi c0_i32_159 v188
  v189.toNat
def k0_dev15 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v169 : BitVec 32 := Scalar.xori v2 c8_i32_141
  let c1_i32_168 : BitVec 32 := 1#32
  let v202 : BitVec 32 := Scalar.muli v169 c1_i32_168
  let v203 : BitVec 32 := Scalar.addi c0_i32_169 v202
  v203.toNat
def k0_dev16 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v169 : BitVec 32 := Scalar.xori v2 c8_i32_141
  let c1_i32_178 : BitVec 32 := 1#32
  let v216 : BitVec 32 := Scalar.muli v169 c1_i32_178
  let v217 : BitVec 32 := Scalar.addi c0_i32_179 v216
  v217.toNat
def k0_dev17 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v169 : BitVec 32 := Scalar.xori v2 c8_i32_141
  let c1_i32_189 : BitVec 32 := 1#32
  let v230 : BitVec 32 := Scalar.muli v169 c1_i32_189
  let v231 : BitVec 32 := Scalar.addi c0_i32_190 v230
  v231.toNat
def k0_dev18 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v169 : BitVec 32 := Scalar.xori v2 c8_i32_141
  let c1_i32_200 : BitVec 32 := 1#32
  let v244 : BitVec 32 := Scalar.muli v169 c1_i32_200
  let v245 : BitVec 32 := Scalar.addi c0_i32_201 v244
  v245.toNat
def k0_dev19 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v169 : BitVec 32 := Scalar.xori v2 c8_i32_141
  let c1_i32_210 : BitVec 32 := 1#32
  let v258 : BitVec 32 := Scalar.muli v169 c1_i32_210
  let v259 : BitVec 32 := Scalar.addi c0_i32_211 v258
  v259.toNat
def k0_dev20 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v169 : BitVec 32 := Scalar.xori v2 c8_i32_141
  let c1_i32_221 : BitVec 32 := 1#32
  let v272 : BitVec 32 := Scalar.muli v169 c1_i32_221
  let v273 : BitVec 32 := Scalar.addi c0_i32_222 v272
  v273.toNat
def k0_dev21 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_281 : BitVec 32 := 1#32
  let v335 : BitVec 32 := Scalar.muli v330 c1_i32_281
  let v336 : BitVec 32 := Scalar.addi c0_i32_282 v335
  v336.toNat
def k0_dev22 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_292 : BitVec 32 := 1#32
  let v349 : BitVec 32 := Scalar.muli v330 c1_i32_292
  let v350 : BitVec 32 := Scalar.addi c0_i32_293 v349
  v350.toNat
def k0_dev23 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_304 : BitVec 32 := 1#32
  let v363 : BitVec 32 := Scalar.muli v330 c1_i32_304
  let v364 : BitVec 32 := Scalar.addi c0_i32_305 v363
  v364.toNat
def k0_dev24 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_315 : BitVec 32 := 1#32
  let v377 : BitVec 32 := Scalar.muli v330 c1_i32_315
  let v378 : BitVec 32 := Scalar.addi c0_i32_316 v377
  v378.toNat
def k0_dev25 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_326 : BitVec 32 := 1#32
  let v391 : BitVec 32 := Scalar.muli v330 c1_i32_326
  let v392 : BitVec 32 := Scalar.addi c0_i32_327 v391
  v392.toNat
def k0_dev26 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_338 : BitVec 32 := 1#32
  let v405 : BitVec 32 := Scalar.muli v330 c1_i32_338
  let v406 : BitVec 32 := Scalar.addi c0_i32_339 v405
  v406.toNat
def k0_dev27 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_350 : BitVec 32 := 1#32
  let v419 : BitVec 32 := Scalar.muli v330 c1_i32_350
  let v420 : BitVec 32 := Scalar.addi c0_i32_351 v419
  v420.toNat
def k0_dev28 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_361 : BitVec 32 := 1#32
  let v433 : BitVec 32 := Scalar.muli v330 c1_i32_361
  let v434 : BitVec 32 := Scalar.addi c0_i32_362 v433
  v434.toNat
def k0_dev29 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_373 : BitVec 32 := 1#32
  let v447 : BitVec 32 := Scalar.muli v330 c1_i32_373
  let v448 : BitVec 32 := Scalar.addi c0_i32_374 v447
  v448.toNat
def k0_dev30 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_384 : BitVec 32 := 1#32
  let v461 : BitVec 32 := Scalar.muli v330 c1_i32_384
  let v462 : BitVec 32 := Scalar.addi c0_i32_385 v461
  v462.toNat
def k0_dev31 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_396 : BitVec 32 := 1#32
  let v475 : BitVec 32 := Scalar.muli v330 c1_i32_396
  let v476 : BitVec 32 := Scalar.addi c0_i32_397 v475
  v476.toNat
def k0_dev32 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_407 : BitVec 32 := 1#32
  let v489 : BitVec 32 := Scalar.muli v330 c1_i32_407
  let v490 : BitVec 32 := Scalar.addi c0_i32_408 v489
  v490.toNat
def k0_dev33 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_418 : BitVec 32 := 1#32
  let v503 : BitVec 32 := Scalar.muli v330 c1_i32_418
  let v504 : BitVec 32 := Scalar.addi c0_i32_419 v503
  v504.toNat
def k0_dev34 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_430 : BitVec 32 := 1#32
  let v517 : BitVec 32 := Scalar.muli v330 c1_i32_430
  let v518 : BitVec 32 := Scalar.addi c0_i32_431 v517
  v518.toNat
def k0_dev35 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_442 : BitVec 32 := 1#32
  let v531 : BitVec 32 := Scalar.muli v330 c1_i32_442
  let v532 : BitVec 32 := Scalar.addi c0_i32_443 v531
  v532.toNat
def k0_dev36 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v330 : BitVec 32 := Scalar.xori v2 c1_i32_275
  let c1_i32_453 : BitVec 32 := 1#32
  let v545 : BitVec 32 := Scalar.muli v330 c1_i32_453
  let v546 : BitVec 32 := Scalar.addi c0_i32_454 v545
  v546.toNat
def k0_dev37 (d0 : Dev nD) : Nat :=
  let c0_i32_727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_726 : BitVec 32 := 1#32
  let v791 : BitVec 32 := Scalar.muli v787 c1_i32_726
  let v792 : BitVec 32 := Scalar.addi c0_i32_727 v791
  v792.toNat
def k0_dev38 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_736 : BitVec 32 := 1#32
  let v802 : BitVec 32 := Scalar.muli v787 c1_i32_736
  let v803 : BitVec 32 := Scalar.addi c0_i32_737 v802
  v803.toNat
def k0_dev39 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_746 : BitVec 32 := 1#32
  let v813 : BitVec 32 := Scalar.muli v787 c1_i32_746
  let v814 : BitVec 32 := Scalar.addi c0_i32_747 v813
  v814.toNat
def k0_dev40 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_755 : BitVec 32 := 1#32
  let v824 : BitVec 32 := Scalar.muli v787 c1_i32_755
  let v825 : BitVec 32 := Scalar.addi c0_i32_756 v824
  v825.toNat
def k0_dev41 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_764 : BitVec 32 := 1#32
  let v835 : BitVec 32 := Scalar.muli v787 c1_i32_764
  let v836 : BitVec 32 := Scalar.addi c0_i32_765 v835
  v836.toNat
def k0_dev42 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_773 : BitVec 32 := 1#32
  let v846 : BitVec 32 := Scalar.muli v787 c1_i32_773
  let v847 : BitVec 32 := Scalar.addi c0_i32_774 v846
  v847.toNat
def k0_dev43 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_782 : BitVec 32 := 1#32
  let v857 : BitVec 32 := Scalar.muli v787 c1_i32_782
  let v858 : BitVec 32 := Scalar.addi c0_i32_783 v857
  v858.toNat
def k0_dev44 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_791 : BitVec 32 := 1#32
  let v868 : BitVec 32 := Scalar.muli v787 c1_i32_791
  let v869 : BitVec 32 := Scalar.addi c0_i32_792 v868
  v869.toNat
def k0_dev45 (d0 : Dev nD) : Nat :=
  let c0_i32_801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_800 : BitVec 32 := 1#32
  let v879 : BitVec 32 := Scalar.muli v787 c1_i32_800
  let v880 : BitVec 32 := Scalar.addi c0_i32_801 v879
  v880.toNat
def k0_dev46 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_809 : BitVec 32 := 1#32
  let v890 : BitVec 32 := Scalar.muli v787 c1_i32_809
  let v891 : BitVec 32 := Scalar.addi c0_i32_810 v890
  v891.toNat
def k0_dev47 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_818 : BitVec 32 := 1#32
  let v901 : BitVec 32 := Scalar.muli v787 c1_i32_818
  let v902 : BitVec 32 := Scalar.addi c0_i32_819 v901
  v902.toNat
def k0_dev48 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_827 : BitVec 32 := 1#32
  let v912 : BitVec 32 := Scalar.muli v787 c1_i32_827
  let v913 : BitVec 32 := Scalar.addi c0_i32_828 v912
  v913.toNat
def k0_dev49 (d0 : Dev nD) : Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_836 : BitVec 32 := 1#32
  let v923 : BitVec 32 := Scalar.muli v787 c1_i32_836
  let v924 : BitVec 32 := Scalar.addi c0_i32_837 v923
  v924.toNat
def k0_dev50 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_845 : BitVec 32 := 1#32
  let v934 : BitVec 32 := Scalar.muli v787 c1_i32_845
  let v935 : BitVec 32 := Scalar.addi c0_i32_846 v934
  v935.toNat
def k0_dev51 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_854 : BitVec 32 := 1#32
  let v945 : BitVec 32 := Scalar.muli v787 c1_i32_854
  let v946 : BitVec 32 := Scalar.addi c0_i32_855 v945
  v946.toNat
def k0_dev52 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_720 : BitVec 32 := 1#32
  let v787 : BitVec 32 := Scalar.xori v2 c1_i32_720
  let c1_i32_863 : BitVec 32 := 1#32
  let v956 : BitVec 32 := Scalar.muli v787 c1_i32_863
  let v957 : BitVec 32 := Scalar.addi c0_i32_864 v956
  v957.toNat
def k0_off3 (d0 : Dev nD) (c0_i32_722 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v789 : BitVec 32 := Scalar.xori v2 c0_i32_722
  let c64_i32_874 : BitVec 32 := 64#32
  let v970 : BitVec 32 := Scalar.muli v789 c64_i32_874
  let v971 : Index := Scalar.indexCast v970
  let c0_875 : Index := 0#32
  ![v971.toNat, 0]
def k0_dev53 (d0 : Dev nD) : Nat :=
  let c0_i32_1067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1060 : BitVec 32 := 8#32
  let v1220 : BitVec 32 := Scalar.xori v2 c8_i32_1060
  let c1_i32_1066 : BitVec 32 := 1#32
  let v1224 : BitVec 32 := Scalar.muli v1220 c1_i32_1066
  let v1225 : BitVec 32 := Scalar.addi c0_i32_1067 v1224
  v1225.toNat
def k0_dev54 (d0 : Dev nD) : Nat :=
  let c0_i32_1076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1060 : BitVec 32 := 8#32
  let v1220 : BitVec 32 := Scalar.xori v2 c8_i32_1060
  let c1_i32_1075 : BitVec 32 := 1#32
  let v1235 : BitVec 32 := Scalar.muli v1220 c1_i32_1075
  let v1236 : BitVec 32 := Scalar.addi c0_i32_1076 v1235
  v1236.toNat
def k0_dev55 (d0 : Dev nD) : Nat :=
  let c0_i32_1085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1060 : BitVec 32 := 8#32
  let v1220 : BitVec 32 := Scalar.xori v2 c8_i32_1060
  let c1_i32_1084 : BitVec 32 := 1#32
  let v1246 : BitVec 32 := Scalar.muli v1220 c1_i32_1084
  let v1247 : BitVec 32 := Scalar.addi c0_i32_1085 v1246
  v1247.toNat
def k0_dev56 (d0 : Dev nD) : Nat :=
  let c0_i32_1094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1060 : BitVec 32 := 8#32
  let v1220 : BitVec 32 := Scalar.xori v2 c8_i32_1060
  let c1_i32_1093 : BitVec 32 := 1#32
  let v1257 : BitVec 32 := Scalar.muli v1220 c1_i32_1093
  let v1258 : BitVec 32 := Scalar.addi c0_i32_1094 v1257
  v1258.toNat
def k0_dev57 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1060 : BitVec 32 := 8#32
  let v1220 : BitVec 32 := Scalar.xori v2 c8_i32_1060
  let c1_i32_1102 : BitVec 32 := 1#32
  let v1268 : BitVec 32 := Scalar.muli v1220 c1_i32_1102
  let v1269 : BitVec 32 := Scalar.addi c0_i32_1103 v1268
  v1269.toNat
def k0_dev58 (d0 : Dev nD) : Nat :=
  let c0_i32_1112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1060 : BitVec 32 := 8#32
  let v1220 : BitVec 32 := Scalar.xori v2 c8_i32_1060
  let c1_i32_1111 : BitVec 32 := 1#32
  let v1279 : BitVec 32 := Scalar.muli v1220 c1_i32_1111
  let v1280 : BitVec 32 := Scalar.addi c0_i32_1112 v1279
  v1280.toNat
def k0_dev59 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1060 : BitVec 32 := 8#32
  let v1220 : BitVec 32 := Scalar.xori v2 c8_i32_1060
  let c1_i32_1120 : BitVec 32 := 1#32
  let v1290 : BitVec 32 := Scalar.muli v1220 c1_i32_1120
  let v1291 : BitVec 32 := Scalar.addi c0_i32_1121 v1290
  v1291.toNat
def k0_dev60 (d0 : Dev nD) : Nat :=
  let c0_i32_1130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1060 : BitVec 32 := 8#32
  let v1220 : BitVec 32 := Scalar.xori v2 c8_i32_1060
  let c1_i32_1129 : BitVec 32 := 1#32
  let v1301 : BitVec 32 := Scalar.muli v1220 c1_i32_1129
  let v1302 : BitVec 32 := Scalar.addi c0_i32_1130 v1301
  v1302.toNat
def k0_dev61 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1229 : BitVec 32 := 2#32
  let v1437 : BitVec 32 := Scalar.xori v2 c2_i32_1229
  let c1_i32_1235 : BitVec 32 := 1#32
  let v1441 : BitVec 32 := Scalar.muli v1437 c1_i32_1235
  let v1442 : BitVec 32 := Scalar.addi c0_i32_1236 v1441
  v1442.toNat
def k0_dev62 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1229 : BitVec 32 := 2#32
  let v1437 : BitVec 32 := Scalar.xori v2 c2_i32_1229
  let c1_i32_1244 : BitVec 32 := 1#32
  let v1452 : BitVec 32 := Scalar.muli v1437 c1_i32_1244
  let v1453 : BitVec 32 := Scalar.addi c0_i32_1245 v1452
  v1453.toNat
def k0_dev63 (d0 : Dev nD) : Nat :=
  let c0_i32_1254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1229 : BitVec 32 := 2#32
  let v1437 : BitVec 32 := Scalar.xori v2 c2_i32_1229
  let c1_i32_1253 : BitVec 32 := 1#32
  let v1463 : BitVec 32 := Scalar.muli v1437 c1_i32_1253
  let v1464 : BitVec 32 := Scalar.addi c0_i32_1254 v1463
  v1464.toNat
def k0_dev64 (d0 : Dev nD) : Nat :=
  let c0_i32_1263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1229 : BitVec 32 := 2#32
  let v1437 : BitVec 32 := Scalar.xori v2 c2_i32_1229
  let c1_i32_1262 : BitVec 32 := 1#32
  let v1474 : BitVec 32 := Scalar.muli v1437 c1_i32_1262
  let v1475 : BitVec 32 := Scalar.addi c0_i32_1263 v1474
  v1475.toNat
def k0_dev65 (d0 : Dev nD) : Nat :=
  let c0_i32_1321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1314 : BitVec 32 := 4#32
  let v1546 : BitVec 32 := Scalar.xori v2 c4_i32_1314
  let c1_i32_1320 : BitVec 32 := 1#32
  let v1550 : BitVec 32 := Scalar.muli v1546 c1_i32_1320
  let v1551 : BitVec 32 := Scalar.addi c0_i32_1321 v1550
  v1551.toNat
def k0_dev66 (d0 : Dev nD) : Nat :=
  let c0_i32_1330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1314 : BitVec 32 := 4#32
  let v1546 : BitVec 32 := Scalar.xori v2 c4_i32_1314
  let c1_i32_1329 : BitVec 32 := 1#32
  let v1561 : BitVec 32 := Scalar.muli v1546 c1_i32_1329
  let v1562 : BitVec 32 := Scalar.addi c0_i32_1330 v1561
  v1562.toNat
def k0_dev67 (d0 : Dev nD) : Nat :=
  let c0_i32_1364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1357 : BitVec 32 := 16#32
  let v1601 : BitVec 32 := Scalar.xori v2 c16_i32_1357
  let c1_i32_1363 : BitVec 32 := 1#32
  let v1605 : BitVec 32 := Scalar.muli v1601 c1_i32_1363
  let v1606 : BitVec 32 := Scalar.addi c0_i32_1364 v1605
  v1606.toNat
def k0_dev68 (d0 : Dev nD) : Nat :=
  let c0_i32_1577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1569 : BitVec 32 := 16#32
  let v1761 : BitVec 32 := Scalar.xori v2 c16_i32_1569
  let c1_i32_1576 : BitVec 32 := 1#32
  let v1766 : BitVec 32 := Scalar.muli v1761 c1_i32_1576
  let v1767 : BitVec 32 := Scalar.addi c0_i32_1577 v1766
  v1767.toNat
def k0_dev69 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1588 : BitVec 32 := 4#32
  let v1782 : BitVec 32 := Scalar.xori v2 c4_i32_1588
  let c1_i32_1595 : BitVec 32 := 1#32
  let v1787 : BitVec 32 := Scalar.muli v1782 c1_i32_1595
  let v1788 : BitVec 32 := Scalar.addi c0_i32_1596 v1787
  v1788.toNat
def k0_dev70 (d0 : Dev nD) : Nat :=
  let c0_i32_1608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1588 : BitVec 32 := 4#32
  let v1782 : BitVec 32 := Scalar.xori v2 c4_i32_1588
  let c1_i32_1607 : BitVec 32 := 1#32
  let v1801 : BitVec 32 := Scalar.muli v1782 c1_i32_1607
  let v1802 : BitVec 32 := Scalar.addi c0_i32_1608 v1801
  v1802.toNat
def k0_dev71 (d0 : Dev nD) : Nat :=
  let c0_i32_1633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1625 : BitVec 32 := 2#32
  let v1823 : BitVec 32 := Scalar.xori v2 c2_i32_1625
  let c1_i32_1632 : BitVec 32 := 1#32
  let v1828 : BitVec 32 := Scalar.muli v1823 c1_i32_1632
  let v1829 : BitVec 32 := Scalar.addi c0_i32_1633 v1828
  v1829.toNat
def k0_dev72 (d0 : Dev nD) : Nat :=
  let c0_i32_1645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1625 : BitVec 32 := 2#32
  let v1823 : BitVec 32 := Scalar.xori v2 c2_i32_1625
  let c1_i32_1644 : BitVec 32 := 1#32
  let v1842 : BitVec 32 := Scalar.muli v1823 c1_i32_1644
  let v1843 : BitVec 32 := Scalar.addi c0_i32_1645 v1842
  v1843.toNat
def k0_dev73 (d0 : Dev nD) : Nat :=
  let c0_i32_1657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1625 : BitVec 32 := 2#32
  let v1823 : BitVec 32 := Scalar.xori v2 c2_i32_1625
  let c1_i32_1656 : BitVec 32 := 1#32
  let v1856 : BitVec 32 := Scalar.muli v1823 c1_i32_1656
  let v1857 : BitVec 32 := Scalar.addi c0_i32_1657 v1856
  v1857.toNat
def k0_dev74 (d0 : Dev nD) : Nat :=
  let c0_i32_1669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1625 : BitVec 32 := 2#32
  let v1823 : BitVec 32 := Scalar.xori v2 c2_i32_1625
  let c1_i32_1668 : BitVec 32 := 1#32
  let v1870 : BitVec 32 := Scalar.muli v1823 c1_i32_1668
  let v1871 : BitVec 32 := Scalar.addi c0_i32_1669 v1870
  v1871.toNat
def k0_dev75 (d0 : Dev nD) : Nat :=
  let c0_i32_1706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1698 : BitVec 32 := 8#32
  let v1904 : BitVec 32 := Scalar.xori v2 c8_i32_1698
  let c1_i32_1705 : BitVec 32 := 1#32
  let v1909 : BitVec 32 := Scalar.muli v1904 c1_i32_1705
  let v1910 : BitVec 32 := Scalar.addi c0_i32_1706 v1909
  v1910.toNat
def k0_dev76 (d0 : Dev nD) : Nat :=
  let c0_i32_1718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1698 : BitVec 32 := 8#32
  let v1904 : BitVec 32 := Scalar.xori v2 c8_i32_1698
  let c1_i32_1717 : BitVec 32 := 1#32
  let v1923 : BitVec 32 := Scalar.muli v1904 c1_i32_1717
  let v1924 : BitVec 32 := Scalar.addi c0_i32_1718 v1923
  v1924.toNat
def k0_dev77 (d0 : Dev nD) : Nat :=
  let c0_i32_1730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1698 : BitVec 32 := 8#32
  let v1904 : BitVec 32 := Scalar.xori v2 c8_i32_1698
  let c1_i32_1729 : BitVec 32 := 1#32
  let v1937 : BitVec 32 := Scalar.muli v1904 c1_i32_1729
  let v1938 : BitVec 32 := Scalar.addi c0_i32_1730 v1937
  v1938.toNat
def k0_dev78 (d0 : Dev nD) : Nat :=
  let c0_i32_1742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1698 : BitVec 32 := 8#32
  let v1904 : BitVec 32 := Scalar.xori v2 c8_i32_1698
  let c1_i32_1741 : BitVec 32 := 1#32
  let v1951 : BitVec 32 := Scalar.muli v1904 c1_i32_1741
  let v1952 : BitVec 32 := Scalar.addi c0_i32_1742 v1951
  v1952.toNat
def k0_dev79 (d0 : Dev nD) : Nat :=
  let c0_i32_1754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1698 : BitVec 32 := 8#32
  let v1904 : BitVec 32 := Scalar.xori v2 c8_i32_1698
  let c1_i32_1753 : BitVec 32 := 1#32
  let v1965 : BitVec 32 := Scalar.muli v1904 c1_i32_1753
  let v1966 : BitVec 32 := Scalar.addi c0_i32_1754 v1965
  v1966.toNat
def k0_dev80 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1698 : BitVec 32 := 8#32
  let v1904 : BitVec 32 := Scalar.xori v2 c8_i32_1698
  let c1_i32_1765 : BitVec 32 := 1#32
  let v1979 : BitVec 32 := Scalar.muli v1904 c1_i32_1765
  let v1980 : BitVec 32 := Scalar.addi c0_i32_1766 v1979
  v1980.toNat
def k0_dev81 (d0 : Dev nD) : Nat :=
  let c0_i32_1778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1698 : BitVec 32 := 8#32
  let v1904 : BitVec 32 := Scalar.xori v2 c8_i32_1698
  let c1_i32_1777 : BitVec 32 := 1#32
  let v1993 : BitVec 32 := Scalar.muli v1904 c1_i32_1777
  let v1994 : BitVec 32 := Scalar.addi c0_i32_1778 v1993
  v1994.toNat
def k0_dev82 (d0 : Dev nD) : Nat :=
  let c0_i32_1790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1698 : BitVec 32 := 8#32
  let v1904 : BitVec 32 := Scalar.xori v2 c8_i32_1698
  let c1_i32_1789 : BitVec 32 := 1#32
  let v2007 : BitVec 32 := Scalar.muli v1904 c1_i32_1789
  let v2008 : BitVec 32 := Scalar.addi c0_i32_1790 v2007
  v2008.toNat
def k0_dev83 (d0 : Dev nD) : Nat :=
  let c0_i32_1851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1850 : BitVec 32 := 1#32
  let v2070 : BitVec 32 := Scalar.muli v2065 c1_i32_1850
  let v2071 : BitVec 32 := Scalar.addi c0_i32_1851 v2070
  v2071.toNat
def k0_dev84 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1862 : BitVec 32 := 1#32
  let v2084 : BitVec 32 := Scalar.muli v2065 c1_i32_1862
  let v2085 : BitVec 32 := Scalar.addi c0_i32_1863 v2084
  v2085.toNat
def k0_dev85 (d0 : Dev nD) : Nat :=
  let c0_i32_1875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1874 : BitVec 32 := 1#32
  let v2098 : BitVec 32 := Scalar.muli v2065 c1_i32_1874
  let v2099 : BitVec 32 := Scalar.addi c0_i32_1875 v2098
  v2099.toNat
def k0_dev86 (d0 : Dev nD) : Nat :=
  let c0_i32_1887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1886 : BitVec 32 := 1#32
  let v2112 : BitVec 32 := Scalar.muli v2065 c1_i32_1886
  let v2113 : BitVec 32 := Scalar.addi c0_i32_1887 v2112
  v2113.toNat
def k0_dev87 (d0 : Dev nD) : Nat :=
  let c0_i32_1899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1898 : BitVec 32 := 1#32
  let v2126 : BitVec 32 := Scalar.muli v2065 c1_i32_1898
  let v2127 : BitVec 32 := Scalar.addi c0_i32_1899 v2126
  v2127.toNat
def k0_dev88 (d0 : Dev nD) : Nat :=
  let c0_i32_1911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1910 : BitVec 32 := 1#32
  let v2140 : BitVec 32 := Scalar.muli v2065 c1_i32_1910
  let v2141 : BitVec 32 := Scalar.addi c0_i32_1911 v2140
  v2141.toNat
def k0_dev89 (d0 : Dev nD) : Nat :=
  let c0_i32_1923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1922 : BitVec 32 := 1#32
  let v2154 : BitVec 32 := Scalar.muli v2065 c1_i32_1922
  let v2155 : BitVec 32 := Scalar.addi c0_i32_1923 v2154
  v2155.toNat
def k0_dev90 (d0 : Dev nD) : Nat :=
  let c0_i32_1935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1934 : BitVec 32 := 1#32
  let v2168 : BitVec 32 := Scalar.muli v2065 c1_i32_1934
  let v2169 : BitVec 32 := Scalar.addi c0_i32_1935 v2168
  v2169.toNat
def k0_dev91 (d0 : Dev nD) : Nat :=
  let c0_i32_1947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1946 : BitVec 32 := 1#32
  let v2182 : BitVec 32 := Scalar.muli v2065 c1_i32_1946
  let v2183 : BitVec 32 := Scalar.addi c0_i32_1947 v2182
  v2183.toNat
def k0_dev92 (d0 : Dev nD) : Nat :=
  let c0_i32_1959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1958 : BitVec 32 := 1#32
  let v2196 : BitVec 32 := Scalar.muli v2065 c1_i32_1958
  let v2197 : BitVec 32 := Scalar.addi c0_i32_1959 v2196
  v2197.toNat
def k0_dev93 (d0 : Dev nD) : Nat :=
  let c0_i32_1971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1970 : BitVec 32 := 1#32
  let v2210 : BitVec 32 := Scalar.muli v2065 c1_i32_1970
  let v2211 : BitVec 32 := Scalar.addi c0_i32_1971 v2210
  v2211.toNat
def k0_dev94 (d0 : Dev nD) : Nat :=
  let c0_i32_1983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1982 : BitVec 32 := 1#32
  let v2224 : BitVec 32 := Scalar.muli v2065 c1_i32_1982
  let v2225 : BitVec 32 := Scalar.addi c0_i32_1983 v2224
  v2225.toNat
def k0_dev95 (d0 : Dev nD) : Nat :=
  let c0_i32_1995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_1994 : BitVec 32 := 1#32
  let v2238 : BitVec 32 := Scalar.muli v2065 c1_i32_1994
  let v2239 : BitVec 32 := Scalar.addi c0_i32_1995 v2238
  v2239.toNat
def k0_dev96 (d0 : Dev nD) : Nat :=
  let c0_i32_2007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_2006 : BitVec 32 := 1#32
  let v2252 : BitVec 32 := Scalar.muli v2065 c1_i32_2006
  let v2253 : BitVec 32 := Scalar.addi c0_i32_2007 v2252
  v2253.toNat
def k0_dev97 (d0 : Dev nD) : Nat :=
  let c0_i32_2019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_2018 : BitVec 32 := 1#32
  let v2266 : BitVec 32 := Scalar.muli v2065 c1_i32_2018
  let v2267 : BitVec 32 := Scalar.addi c0_i32_2019 v2266
  v2267.toNat
def k0_dev98 (d0 : Dev nD) : Nat :=
  let c0_i32_2031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2065 : BitVec 32 := Scalar.xori v2 c1_i32_1843
  let c1_i32_2030 : BitVec 32 := 1#32
  let v2280 : BitVec 32 := Scalar.muli v2065 c1_i32_2030
  let v2281 : BitVec 32 := Scalar.addi c0_i32_2031 v2280
  v2281.toNat
def k0_dev99 (d0 : Dev nD) : Nat :=
  let c0_i32_2305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2304 : BitVec 32 := 1#32
  let v2526 : BitVec 32 := Scalar.muli v2522 c1_i32_2304
  let v2527 : BitVec 32 := Scalar.addi c0_i32_2305 v2526
  v2527.toNat
def k0_dev100 (d0 : Dev nD) : Nat :=
  let c0_i32_2315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2314 : BitVec 32 := 1#32
  let v2537 : BitVec 32 := Scalar.muli v2522 c1_i32_2314
  let v2538 : BitVec 32 := Scalar.addi c0_i32_2315 v2537
  v2538.toNat
def k0_dev101 (d0 : Dev nD) : Nat :=
  let c0_i32_2325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2324 : BitVec 32 := 1#32
  let v2548 : BitVec 32 := Scalar.muli v2522 c1_i32_2324
  let v2549 : BitVec 32 := Scalar.addi c0_i32_2325 v2548
  v2549.toNat
def k0_dev102 (d0 : Dev nD) : Nat :=
  let c0_i32_2335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2334 : BitVec 32 := 1#32
  let v2559 : BitVec 32 := Scalar.muli v2522 c1_i32_2334
  let v2560 : BitVec 32 := Scalar.addi c0_i32_2335 v2559
  v2560.toNat
def k0_dev103 (d0 : Dev nD) : Nat :=
  let c0_i32_2345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2344 : BitVec 32 := 1#32
  let v2570 : BitVec 32 := Scalar.muli v2522 c1_i32_2344
  let v2571 : BitVec 32 := Scalar.addi c0_i32_2345 v2570
  v2571.toNat
def k0_dev104 (d0 : Dev nD) : Nat :=
  let c0_i32_2355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2354 : BitVec 32 := 1#32
  let v2581 : BitVec 32 := Scalar.muli v2522 c1_i32_2354
  let v2582 : BitVec 32 := Scalar.addi c0_i32_2355 v2581
  v2582.toNat
def k0_dev105 (d0 : Dev nD) : Nat :=
  let c0_i32_2365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2364 : BitVec 32 := 1#32
  let v2592 : BitVec 32 := Scalar.muli v2522 c1_i32_2364
  let v2593 : BitVec 32 := Scalar.addi c0_i32_2365 v2592
  v2593.toNat
def k0_dev106 (d0 : Dev nD) : Nat :=
  let c0_i32_2375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2374 : BitVec 32 := 1#32
  let v2603 : BitVec 32 := Scalar.muli v2522 c1_i32_2374
  let v2604 : BitVec 32 := Scalar.addi c0_i32_2375 v2603
  v2604.toNat
def k0_dev107 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2384 : BitVec 32 := 1#32
  let v2614 : BitVec 32 := Scalar.muli v2522 c1_i32_2384
  let v2615 : BitVec 32 := Scalar.addi c0_i32_2385 v2614
  v2615.toNat
def k0_dev108 (d0 : Dev nD) : Nat :=
  let c0_i32_2395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2394 : BitVec 32 := 1#32
  let v2625 : BitVec 32 := Scalar.muli v2522 c1_i32_2394
  let v2626 : BitVec 32 := Scalar.addi c0_i32_2395 v2625
  v2626.toNat
def k0_dev109 (d0 : Dev nD) : Nat :=
  let c0_i32_2405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2404 : BitVec 32 := 1#32
  let v2636 : BitVec 32 := Scalar.muli v2522 c1_i32_2404
  let v2637 : BitVec 32 := Scalar.addi c0_i32_2405 v2636
  v2637.toNat
def k0_dev110 (d0 : Dev nD) : Nat :=
  let c0_i32_2415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2414 : BitVec 32 := 1#32
  let v2647 : BitVec 32 := Scalar.muli v2522 c1_i32_2414
  let v2648 : BitVec 32 := Scalar.addi c0_i32_2415 v2647
  v2648.toNat
def k0_dev111 (d0 : Dev nD) : Nat :=
  let c0_i32_2425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2424 : BitVec 32 := 1#32
  let v2658 : BitVec 32 := Scalar.muli v2522 c1_i32_2424
  let v2659 : BitVec 32 := Scalar.addi c0_i32_2425 v2658
  v2659.toNat
def k0_dev112 (d0 : Dev nD) : Nat :=
  let c0_i32_2435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2434 : BitVec 32 := 1#32
  let v2669 : BitVec 32 := Scalar.muli v2522 c1_i32_2434
  let v2670 : BitVec 32 := Scalar.addi c0_i32_2435 v2669
  v2670.toNat
def k0_dev113 (d0 : Dev nD) : Nat :=
  let c0_i32_2445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2444 : BitVec 32 := 1#32
  let v2680 : BitVec 32 := Scalar.muli v2522 c1_i32_2444
  let v2681 : BitVec 32 := Scalar.addi c0_i32_2445 v2680
  v2681.toNat
def k0_dev114 (d0 : Dev nD) : Nat :=
  let c0_i32_2455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2298 : BitVec 32 := 1#32
  let v2522 : BitVec 32 := Scalar.xori v2 c1_i32_2298
  let c1_i32_2454 : BitVec 32 := 1#32
  let v2691 : BitVec 32 := Scalar.muli v2522 c1_i32_2454
  let v2692 : BitVec 32 := Scalar.addi c0_i32_2455 v2691
  v2692.toNat
def k0_dev115 (d0 : Dev nD) : Nat :=
  let c0_i32_2674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2667 : BitVec 32 := 8#32
  let v2955 : BitVec 32 := Scalar.xori v2 c8_i32_2667
  let c1_i32_2673 : BitVec 32 := 1#32
  let v2959 : BitVec 32 := Scalar.muli v2955 c1_i32_2673
  let v2960 : BitVec 32 := Scalar.addi c0_i32_2674 v2959
  v2960.toNat
def k0_dev116 (d0 : Dev nD) : Nat :=
  let c0_i32_2684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2667 : BitVec 32 := 8#32
  let v2955 : BitVec 32 := Scalar.xori v2 c8_i32_2667
  let c1_i32_2683 : BitVec 32 := 1#32
  let v2970 : BitVec 32 := Scalar.muli v2955 c1_i32_2683
  let v2971 : BitVec 32 := Scalar.addi c0_i32_2684 v2970
  v2971.toNat
def k0_dev117 (d0 : Dev nD) : Nat :=
  let c0_i32_2694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2667 : BitVec 32 := 8#32
  let v2955 : BitVec 32 := Scalar.xori v2 c8_i32_2667
  let c1_i32_2693 : BitVec 32 := 1#32
  let v2981 : BitVec 32 := Scalar.muli v2955 c1_i32_2693
  let v2982 : BitVec 32 := Scalar.addi c0_i32_2694 v2981
  v2982.toNat
def k0_dev118 (d0 : Dev nD) : Nat :=
  let c0_i32_2704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2667 : BitVec 32 := 8#32
  let v2955 : BitVec 32 := Scalar.xori v2 c8_i32_2667
  let c1_i32_2703 : BitVec 32 := 1#32
  let v2992 : BitVec 32 := Scalar.muli v2955 c1_i32_2703
  let v2993 : BitVec 32 := Scalar.addi c0_i32_2704 v2992
  v2993.toNat
def k0_dev119 (d0 : Dev nD) : Nat :=
  let c0_i32_2714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2667 : BitVec 32 := 8#32
  let v2955 : BitVec 32 := Scalar.xori v2 c8_i32_2667
  let c1_i32_2713 : BitVec 32 := 1#32
  let v3003 : BitVec 32 := Scalar.muli v2955 c1_i32_2713
  let v3004 : BitVec 32 := Scalar.addi c0_i32_2714 v3003
  v3004.toNat
def k0_dev120 (d0 : Dev nD) : Nat :=
  let c0_i32_2724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2667 : BitVec 32 := 8#32
  let v2955 : BitVec 32 := Scalar.xori v2 c8_i32_2667
  let c1_i32_2723 : BitVec 32 := 1#32
  let v3014 : BitVec 32 := Scalar.muli v2955 c1_i32_2723
  let v3015 : BitVec 32 := Scalar.addi c0_i32_2724 v3014
  v3015.toNat
def k0_dev121 (d0 : Dev nD) : Nat :=
  let c0_i32_2734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2667 : BitVec 32 := 8#32
  let v2955 : BitVec 32 := Scalar.xori v2 c8_i32_2667
  let c1_i32_2733 : BitVec 32 := 1#32
  let v3025 : BitVec 32 := Scalar.muli v2955 c1_i32_2733
  let v3026 : BitVec 32 := Scalar.addi c0_i32_2734 v3025
  v3026.toNat
def k0_dev122 (d0 : Dev nD) : Nat :=
  let c0_i32_2744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2667 : BitVec 32 := 8#32
  let v2955 : BitVec 32 := Scalar.xori v2 c8_i32_2667
  let c1_i32_2743 : BitVec 32 := 1#32
  let v3036 : BitVec 32 := Scalar.muli v2955 c1_i32_2743
  let v3037 : BitVec 32 := Scalar.addi c0_i32_2744 v3036
  v3037.toNat
def k0_dev123 (d0 : Dev nD) : Nat :=
  let c0_i32_2859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2852 : BitVec 32 := 2#32
  let v3172 : BitVec 32 := Scalar.xori v2 c2_i32_2852
  let c1_i32_2858 : BitVec 32 := 1#32
  let v3176 : BitVec 32 := Scalar.muli v3172 c1_i32_2858
  let v3177 : BitVec 32 := Scalar.addi c0_i32_2859 v3176
  v3177.toNat
def k0_dev124 (d0 : Dev nD) : Nat :=
  let c0_i32_2869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2852 : BitVec 32 := 2#32
  let v3172 : BitVec 32 := Scalar.xori v2 c2_i32_2852
  let c1_i32_2868 : BitVec 32 := 1#32
  let v3187 : BitVec 32 := Scalar.muli v3172 c1_i32_2868
  let v3188 : BitVec 32 := Scalar.addi c0_i32_2869 v3187
  v3188.toNat
def k0_dev125 (d0 : Dev nD) : Nat :=
  let c0_i32_2879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2852 : BitVec 32 := 2#32
  let v3172 : BitVec 32 := Scalar.xori v2 c2_i32_2852
  let c1_i32_2878 : BitVec 32 := 1#32
  let v3198 : BitVec 32 := Scalar.muli v3172 c1_i32_2878
  let v3199 : BitVec 32 := Scalar.addi c0_i32_2879 v3198
  v3199.toNat
def k0_dev126 (d0 : Dev nD) : Nat :=
  let c0_i32_2889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2852 : BitVec 32 := 2#32
  let v3172 : BitVec 32 := Scalar.xori v2 c2_i32_2852
  let c1_i32_2888 : BitVec 32 := 1#32
  let v3209 : BitVec 32 := Scalar.muli v3172 c1_i32_2888
  let v3210 : BitVec 32 := Scalar.addi c0_i32_2889 v3209
  v3210.toNat
def k0_dev127 (d0 : Dev nD) : Nat :=
  let c0_i32_2952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2945 : BitVec 32 := 4#32
  let v3281 : BitVec 32 := Scalar.xori v2 c4_i32_2945
  let c1_i32_2951 : BitVec 32 := 1#32
  let v3285 : BitVec 32 := Scalar.muli v3281 c1_i32_2951
  let v3286 : BitVec 32 := Scalar.addi c0_i32_2952 v3285
  v3286.toNat
def k0_dev128 (d0 : Dev nD) : Nat :=
  let c0_i32_2962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2945 : BitVec 32 := 4#32
  let v3281 : BitVec 32 := Scalar.xori v2 c4_i32_2945
  let c1_i32_2961 : BitVec 32 := 1#32
  let v3296 : BitVec 32 := Scalar.muli v3281 c1_i32_2961
  let v3297 : BitVec 32 := Scalar.addi c0_i32_2962 v3296
  v3297.toNat
def k0_dev129 (d0 : Dev nD) : Nat :=
  let c0_i32_2999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2992 : BitVec 32 := 16#32
  let v3336 : BitVec 32 := Scalar.xori v2 c16_i32_2992
  let c1_i32_2998 : BitVec 32 := 1#32
  let v3340 : BitVec 32 := Scalar.muli v3336 c1_i32_2998
  let v3341 : BitVec 32 := Scalar.addi c0_i32_2999 v3340
  v3341.toNat
def k0_dev130 (d0 : Dev nD) : Nat :=
  let c0_i32_3214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3206 : BitVec 32 := 16#32
  let v3496 : BitVec 32 := Scalar.xori v2 c16_i32_3206
  let c1_i32_3213 : BitVec 32 := 1#32
  let v3501 : BitVec 32 := Scalar.muli v3496 c1_i32_3213
  let v3502 : BitVec 32 := Scalar.addi c0_i32_3214 v3501
  v3502.toNat
def k0_dev131 (d0 : Dev nD) : Nat :=
  let c0_i32_3233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3225 : BitVec 32 := 4#32
  let v3517 : BitVec 32 := Scalar.xori v2 c4_i32_3225
  let c1_i32_3232 : BitVec 32 := 1#32
  let v3522 : BitVec 32 := Scalar.muli v3517 c1_i32_3232
  let v3523 : BitVec 32 := Scalar.addi c0_i32_3233 v3522
  v3523.toNat
def k0_dev132 (d0 : Dev nD) : Nat :=
  let c0_i32_3245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3225 : BitVec 32 := 4#32
  let v3517 : BitVec 32 := Scalar.xori v2 c4_i32_3225
  let c1_i32_3244 : BitVec 32 := 1#32
  let v3536 : BitVec 32 := Scalar.muli v3517 c1_i32_3244
  let v3537 : BitVec 32 := Scalar.addi c0_i32_3245 v3536
  v3537.toNat
def k0_dev133 (d0 : Dev nD) : Nat :=
  let c0_i32_3270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3262 : BitVec 32 := 2#32
  let v3558 : BitVec 32 := Scalar.xori v2 c2_i32_3262
  let c1_i32_3269 : BitVec 32 := 1#32
  let v3563 : BitVec 32 := Scalar.muli v3558 c1_i32_3269
  let v3564 : BitVec 32 := Scalar.addi c0_i32_3270 v3563
  v3564.toNat
def k0_dev134 (d0 : Dev nD) : Nat :=
  let c0_i32_3282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3262 : BitVec 32 := 2#32
  let v3558 : BitVec 32 := Scalar.xori v2 c2_i32_3262
  let c1_i32_3281 : BitVec 32 := 1#32
  let v3577 : BitVec 32 := Scalar.muli v3558 c1_i32_3281
  let v3578 : BitVec 32 := Scalar.addi c0_i32_3282 v3577
  v3578.toNat
def k0_dev135 (d0 : Dev nD) : Nat :=
  let c0_i32_3294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3262 : BitVec 32 := 2#32
  let v3558 : BitVec 32 := Scalar.xori v2 c2_i32_3262
  let c1_i32_3293 : BitVec 32 := 1#32
  let v3591 : BitVec 32 := Scalar.muli v3558 c1_i32_3293
  let v3592 : BitVec 32 := Scalar.addi c0_i32_3294 v3591
  v3592.toNat
def k0_dev136 (d0 : Dev nD) : Nat :=
  let c0_i32_3306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3262 : BitVec 32 := 2#32
  let v3558 : BitVec 32 := Scalar.xori v2 c2_i32_3262
  let c1_i32_3305 : BitVec 32 := 1#32
  let v3605 : BitVec 32 := Scalar.muli v3558 c1_i32_3305
  let v3606 : BitVec 32 := Scalar.addi c0_i32_3306 v3605
  v3606.toNat
def k0_dev137 (d0 : Dev nD) : Nat :=
  let c0_i32_3343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3335 : BitVec 32 := 8#32
  let v3639 : BitVec 32 := Scalar.xori v2 c8_i32_3335
  let c1_i32_3342 : BitVec 32 := 1#32
  let v3644 : BitVec 32 := Scalar.muli v3639 c1_i32_3342
  let v3645 : BitVec 32 := Scalar.addi c0_i32_3343 v3644
  v3645.toNat
def k0_dev138 (d0 : Dev nD) : Nat :=
  let c0_i32_3355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3335 : BitVec 32 := 8#32
  let v3639 : BitVec 32 := Scalar.xori v2 c8_i32_3335
  let c1_i32_3354 : BitVec 32 := 1#32
  let v3658 : BitVec 32 := Scalar.muli v3639 c1_i32_3354
  let v3659 : BitVec 32 := Scalar.addi c0_i32_3355 v3658
  v3659.toNat
def k0_dev139 (d0 : Dev nD) : Nat :=
  let c0_i32_3367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3335 : BitVec 32 := 8#32
  let v3639 : BitVec 32 := Scalar.xori v2 c8_i32_3335
  let c1_i32_3366 : BitVec 32 := 1#32
  let v3672 : BitVec 32 := Scalar.muli v3639 c1_i32_3366
  let v3673 : BitVec 32 := Scalar.addi c0_i32_3367 v3672
  v3673.toNat
def k0_dev140 (d0 : Dev nD) : Nat :=
  let c0_i32_3379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3335 : BitVec 32 := 8#32
  let v3639 : BitVec 32 := Scalar.xori v2 c8_i32_3335
  let c1_i32_3378 : BitVec 32 := 1#32
  let v3686 : BitVec 32 := Scalar.muli v3639 c1_i32_3378
  let v3687 : BitVec 32 := Scalar.addi c0_i32_3379 v3686
  v3687.toNat
def k0_dev141 (d0 : Dev nD) : Nat :=
  let c0_i32_3391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3335 : BitVec 32 := 8#32
  let v3639 : BitVec 32 := Scalar.xori v2 c8_i32_3335
  let c1_i32_3390 : BitVec 32 := 1#32
  let v3700 : BitVec 32 := Scalar.muli v3639 c1_i32_3390
  let v3701 : BitVec 32 := Scalar.addi c0_i32_3391 v3700
  v3701.toNat
def k0_dev142 (d0 : Dev nD) : Nat :=
  let c0_i32_3403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3335 : BitVec 32 := 8#32
  let v3639 : BitVec 32 := Scalar.xori v2 c8_i32_3335
  let c1_i32_3402 : BitVec 32 := 1#32
  let v3714 : BitVec 32 := Scalar.muli v3639 c1_i32_3402
  let v3715 : BitVec 32 := Scalar.addi c0_i32_3403 v3714
  v3715.toNat
def k0_dev143 (d0 : Dev nD) : Nat :=
  let c0_i32_3415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3335 : BitVec 32 := 8#32
  let v3639 : BitVec 32 := Scalar.xori v2 c8_i32_3335
  let c1_i32_3414 : BitVec 32 := 1#32
  let v3728 : BitVec 32 := Scalar.muli v3639 c1_i32_3414
  let v3729 : BitVec 32 := Scalar.addi c0_i32_3415 v3728
  v3729.toNat
def k0_dev144 (d0 : Dev nD) : Nat :=
  let c0_i32_3427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3335 : BitVec 32 := 8#32
  let v3639 : BitVec 32 := Scalar.xori v2 c8_i32_3335
  let c1_i32_3426 : BitVec 32 := 1#32
  let v3742 : BitVec 32 := Scalar.muli v3639 c1_i32_3426
  let v3743 : BitVec 32 := Scalar.addi c0_i32_3427 v3742
  v3743.toNat
def k0_dev145 (d0 : Dev nD) : Nat :=
  let c0_i32_3488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3487 : BitVec 32 := 1#32
  let v3805 : BitVec 32 := Scalar.muli v3800 c1_i32_3487
  let v3806 : BitVec 32 := Scalar.addi c0_i32_3488 v3805
  v3806.toNat
def k0_dev146 (d0 : Dev nD) : Nat :=
  let c0_i32_3500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3499 : BitVec 32 := 1#32
  let v3819 : BitVec 32 := Scalar.muli v3800 c1_i32_3499
  let v3820 : BitVec 32 := Scalar.addi c0_i32_3500 v3819
  v3820.toNat
def k0_dev147 (d0 : Dev nD) : Nat :=
  let c0_i32_3512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3511 : BitVec 32 := 1#32
  let v3833 : BitVec 32 := Scalar.muli v3800 c1_i32_3511
  let v3834 : BitVec 32 := Scalar.addi c0_i32_3512 v3833
  v3834.toNat
def k0_dev148 (d0 : Dev nD) : Nat :=
  let c0_i32_3524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3523 : BitVec 32 := 1#32
  let v3847 : BitVec 32 := Scalar.muli v3800 c1_i32_3523
  let v3848 : BitVec 32 := Scalar.addi c0_i32_3524 v3847
  v3848.toNat
def k0_dev149 (d0 : Dev nD) : Nat :=
  let c0_i32_3536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3535 : BitVec 32 := 1#32
  let v3861 : BitVec 32 := Scalar.muli v3800 c1_i32_3535
  let v3862 : BitVec 32 := Scalar.addi c0_i32_3536 v3861
  v3862.toNat
def k0_dev150 (d0 : Dev nD) : Nat :=
  let c0_i32_3548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3547 : BitVec 32 := 1#32
  let v3875 : BitVec 32 := Scalar.muli v3800 c1_i32_3547
  let v3876 : BitVec 32 := Scalar.addi c0_i32_3548 v3875
  v3876.toNat
def k0_dev151 (d0 : Dev nD) : Nat :=
  let c0_i32_3560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3559 : BitVec 32 := 1#32
  let v3889 : BitVec 32 := Scalar.muli v3800 c1_i32_3559
  let v3890 : BitVec 32 := Scalar.addi c0_i32_3560 v3889
  v3890.toNat
def k0_dev152 (d0 : Dev nD) : Nat :=
  let c0_i32_3572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3571 : BitVec 32 := 1#32
  let v3903 : BitVec 32 := Scalar.muli v3800 c1_i32_3571
  let v3904 : BitVec 32 := Scalar.addi c0_i32_3572 v3903
  v3904.toNat
def k0_dev153 (d0 : Dev nD) : Nat :=
  let c0_i32_3584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3583 : BitVec 32 := 1#32
  let v3917 : BitVec 32 := Scalar.muli v3800 c1_i32_3583
  let v3918 : BitVec 32 := Scalar.addi c0_i32_3584 v3917
  v3918.toNat
def k0_dev154 (d0 : Dev nD) : Nat :=
  let c0_i32_3596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3595 : BitVec 32 := 1#32
  let v3931 : BitVec 32 := Scalar.muli v3800 c1_i32_3595
  let v3932 : BitVec 32 := Scalar.addi c0_i32_3596 v3931
  v3932.toNat
def k0_dev155 (d0 : Dev nD) : Nat :=
  let c0_i32_3608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3607 : BitVec 32 := 1#32
  let v3945 : BitVec 32 := Scalar.muli v3800 c1_i32_3607
  let v3946 : BitVec 32 := Scalar.addi c0_i32_3608 v3945
  v3946.toNat
def k0_dev156 (d0 : Dev nD) : Nat :=
  let c0_i32_3620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3619 : BitVec 32 := 1#32
  let v3959 : BitVec 32 := Scalar.muli v3800 c1_i32_3619
  let v3960 : BitVec 32 := Scalar.addi c0_i32_3620 v3959
  v3960.toNat
def k0_dev157 (d0 : Dev nD) : Nat :=
  let c0_i32_3632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3631 : BitVec 32 := 1#32
  let v3973 : BitVec 32 := Scalar.muli v3800 c1_i32_3631
  let v3974 : BitVec 32 := Scalar.addi c0_i32_3632 v3973
  v3974.toNat
def k0_dev158 (d0 : Dev nD) : Nat :=
  let c0_i32_3644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3643 : BitVec 32 := 1#32
  let v3987 : BitVec 32 := Scalar.muli v3800 c1_i32_3643
  let v3988 : BitVec 32 := Scalar.addi c0_i32_3644 v3987
  v3988.toNat
def k0_dev159 (d0 : Dev nD) : Nat :=
  let c0_i32_3656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3655 : BitVec 32 := 1#32
  let v4001 : BitVec 32 := Scalar.muli v3800 c1_i32_3655
  let v4002 : BitVec 32 := Scalar.addi c0_i32_3656 v4001
  v4002.toNat
def k0_dev160 (d0 : Dev nD) : Nat :=
  let c0_i32_3668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3480 : BitVec 32 := 1#32
  let v3800 : BitVec 32 := Scalar.xori v2 c1_i32_3480
  let c1_i32_3667 : BitVec 32 := 1#32
  let v4015 : BitVec 32 := Scalar.muli v3800 c1_i32_3667
  let v4016 : BitVec 32 := Scalar.addi c0_i32_3668 v4015
  v4016.toNat
def k0_dev161 (d0 : Dev nD) : Nat :=
  let c0_i32_3942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_3941 : BitVec 32 := 1#32
  let v4261 : BitVec 32 := Scalar.muli v4257 c1_i32_3941
  let v4262 : BitVec 32 := Scalar.addi c0_i32_3942 v4261
  v4262.toNat
def k0_dev162 (d0 : Dev nD) : Nat :=
  let c0_i32_3952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_3951 : BitVec 32 := 1#32
  let v4272 : BitVec 32 := Scalar.muli v4257 c1_i32_3951
  let v4273 : BitVec 32 := Scalar.addi c0_i32_3952 v4272
  v4273.toNat
def k0_dev163 (d0 : Dev nD) : Nat :=
  let c0_i32_3962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_3961 : BitVec 32 := 1#32
  let v4283 : BitVec 32 := Scalar.muli v4257 c1_i32_3961
  let v4284 : BitVec 32 := Scalar.addi c0_i32_3962 v4283
  v4284.toNat
def k0_dev164 (d0 : Dev nD) : Nat :=
  let c0_i32_3972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_3971 : BitVec 32 := 1#32
  let v4294 : BitVec 32 := Scalar.muli v4257 c1_i32_3971
  let v4295 : BitVec 32 := Scalar.addi c0_i32_3972 v4294
  v4295.toNat
def k0_dev165 (d0 : Dev nD) : Nat :=
  let c0_i32_3982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_3981 : BitVec 32 := 1#32
  let v4305 : BitVec 32 := Scalar.muli v4257 c1_i32_3981
  let v4306 : BitVec 32 := Scalar.addi c0_i32_3982 v4305
  v4306.toNat
def k0_dev166 (d0 : Dev nD) : Nat :=
  let c0_i32_3992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_3991 : BitVec 32 := 1#32
  let v4316 : BitVec 32 := Scalar.muli v4257 c1_i32_3991
  let v4317 : BitVec 32 := Scalar.addi c0_i32_3992 v4316
  v4317.toNat
def k0_dev167 (d0 : Dev nD) : Nat :=
  let c0_i32_4002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4001 : BitVec 32 := 1#32
  let v4327 : BitVec 32 := Scalar.muli v4257 c1_i32_4001
  let v4328 : BitVec 32 := Scalar.addi c0_i32_4002 v4327
  v4328.toNat
def k0_dev168 (d0 : Dev nD) : Nat :=
  let c0_i32_4012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4011 : BitVec 32 := 1#32
  let v4338 : BitVec 32 := Scalar.muli v4257 c1_i32_4011
  let v4339 : BitVec 32 := Scalar.addi c0_i32_4012 v4338
  v4339.toNat
def k0_dev169 (d0 : Dev nD) : Nat :=
  let c0_i32_4022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4021 : BitVec 32 := 1#32
  let v4349 : BitVec 32 := Scalar.muli v4257 c1_i32_4021
  let v4350 : BitVec 32 := Scalar.addi c0_i32_4022 v4349
  v4350.toNat
def k0_dev170 (d0 : Dev nD) : Nat :=
  let c0_i32_4032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4031 : BitVec 32 := 1#32
  let v4360 : BitVec 32 := Scalar.muli v4257 c1_i32_4031
  let v4361 : BitVec 32 := Scalar.addi c0_i32_4032 v4360
  v4361.toNat
def k0_dev171 (d0 : Dev nD) : Nat :=
  let c0_i32_4042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4041 : BitVec 32 := 1#32
  let v4371 : BitVec 32 := Scalar.muli v4257 c1_i32_4041
  let v4372 : BitVec 32 := Scalar.addi c0_i32_4042 v4371
  v4372.toNat
def k0_dev172 (d0 : Dev nD) : Nat :=
  let c0_i32_4052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4051 : BitVec 32 := 1#32
  let v4382 : BitVec 32 := Scalar.muli v4257 c1_i32_4051
  let v4383 : BitVec 32 := Scalar.addi c0_i32_4052 v4382
  v4383.toNat
def k0_dev173 (d0 : Dev nD) : Nat :=
  let c0_i32_4062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4061 : BitVec 32 := 1#32
  let v4393 : BitVec 32 := Scalar.muli v4257 c1_i32_4061
  let v4394 : BitVec 32 := Scalar.addi c0_i32_4062 v4393
  v4394.toNat
def k0_dev174 (d0 : Dev nD) : Nat :=
  let c0_i32_4072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4071 : BitVec 32 := 1#32
  let v4404 : BitVec 32 := Scalar.muli v4257 c1_i32_4071
  let v4405 : BitVec 32 := Scalar.addi c0_i32_4072 v4404
  v4405.toNat
def k0_dev175 (d0 : Dev nD) : Nat :=
  let c0_i32_4082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4081 : BitVec 32 := 1#32
  let v4415 : BitVec 32 := Scalar.muli v4257 c1_i32_4081
  let v4416 : BitVec 32 := Scalar.addi c0_i32_4082 v4415
  v4416.toNat
def k0_dev176 (d0 : Dev nD) : Nat :=
  let c0_i32_4092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3935 : BitVec 32 := 1#32
  let v4257 : BitVec 32 := Scalar.xori v2 c1_i32_3935
  let c1_i32_4091 : BitVec 32 := 1#32
  let v4426 : BitVec 32 := Scalar.muli v4257 c1_i32_4091
  let v4427 : BitVec 32 := Scalar.addi c0_i32_4092 v4426
  v4427.toNat
def k0_dev177 (d0 : Dev nD) : Nat :=
  let c0_i32_4311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4304 : BitVec 32 := 8#32
  let v4690 : BitVec 32 := Scalar.xori v2 c8_i32_4304
  let c1_i32_4310 : BitVec 32 := 1#32
  let v4694 : BitVec 32 := Scalar.muli v4690 c1_i32_4310
  let v4695 : BitVec 32 := Scalar.addi c0_i32_4311 v4694
  v4695.toNat
def k0_dev178 (d0 : Dev nD) : Nat :=
  let c0_i32_4321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4304 : BitVec 32 := 8#32
  let v4690 : BitVec 32 := Scalar.xori v2 c8_i32_4304
  let c1_i32_4320 : BitVec 32 := 1#32
  let v4705 : BitVec 32 := Scalar.muli v4690 c1_i32_4320
  let v4706 : BitVec 32 := Scalar.addi c0_i32_4321 v4705
  v4706.toNat
def k0_dev179 (d0 : Dev nD) : Nat :=
  let c0_i32_4331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4304 : BitVec 32 := 8#32
  let v4690 : BitVec 32 := Scalar.xori v2 c8_i32_4304
  let c1_i32_4330 : BitVec 32 := 1#32
  let v4716 : BitVec 32 := Scalar.muli v4690 c1_i32_4330
  let v4717 : BitVec 32 := Scalar.addi c0_i32_4331 v4716
  v4717.toNat
def k0_dev180 (d0 : Dev nD) : Nat :=
  let c0_i32_4341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4304 : BitVec 32 := 8#32
  let v4690 : BitVec 32 := Scalar.xori v2 c8_i32_4304
  let c1_i32_4340 : BitVec 32 := 1#32
  let v4727 : BitVec 32 := Scalar.muli v4690 c1_i32_4340
  let v4728 : BitVec 32 := Scalar.addi c0_i32_4341 v4727
  v4728.toNat
def k0_dev181 (d0 : Dev nD) : Nat :=
  let c0_i32_4351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4304 : BitVec 32 := 8#32
  let v4690 : BitVec 32 := Scalar.xori v2 c8_i32_4304
  let c1_i32_4350 : BitVec 32 := 1#32
  let v4738 : BitVec 32 := Scalar.muli v4690 c1_i32_4350
  let v4739 : BitVec 32 := Scalar.addi c0_i32_4351 v4738
  v4739.toNat
def k0_dev182 (d0 : Dev nD) : Nat :=
  let c0_i32_4361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4304 : BitVec 32 := 8#32
  let v4690 : BitVec 32 := Scalar.xori v2 c8_i32_4304
  let c1_i32_4360 : BitVec 32 := 1#32
  let v4749 : BitVec 32 := Scalar.muli v4690 c1_i32_4360
  let v4750 : BitVec 32 := Scalar.addi c0_i32_4361 v4749
  v4750.toNat
def k0_dev183 (d0 : Dev nD) : Nat :=
  let c0_i32_4371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4304 : BitVec 32 := 8#32
  let v4690 : BitVec 32 := Scalar.xori v2 c8_i32_4304
  let c1_i32_4370 : BitVec 32 := 1#32
  let v4760 : BitVec 32 := Scalar.muli v4690 c1_i32_4370
  let v4761 : BitVec 32 := Scalar.addi c0_i32_4371 v4760
  v4761.toNat
def k0_dev184 (d0 : Dev nD) : Nat :=
  let c0_i32_4381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4304 : BitVec 32 := 8#32
  let v4690 : BitVec 32 := Scalar.xori v2 c8_i32_4304
  let c1_i32_4380 : BitVec 32 := 1#32
  let v4771 : BitVec 32 := Scalar.muli v4690 c1_i32_4380
  let v4772 : BitVec 32 := Scalar.addi c0_i32_4381 v4771
  v4772.toNat
def k0_dev185 (d0 : Dev nD) : Nat :=
  let c0_i32_4496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4489 : BitVec 32 := 2#32
  let v4907 : BitVec 32 := Scalar.xori v2 c2_i32_4489
  let c1_i32_4495 : BitVec 32 := 1#32
  let v4911 : BitVec 32 := Scalar.muli v4907 c1_i32_4495
  let v4912 : BitVec 32 := Scalar.addi c0_i32_4496 v4911
  v4912.toNat
def k0_dev186 (d0 : Dev nD) : Nat :=
  let c0_i32_4506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4489 : BitVec 32 := 2#32
  let v4907 : BitVec 32 := Scalar.xori v2 c2_i32_4489
  let c1_i32_4505 : BitVec 32 := 1#32
  let v4922 : BitVec 32 := Scalar.muli v4907 c1_i32_4505
  let v4923 : BitVec 32 := Scalar.addi c0_i32_4506 v4922
  v4923.toNat
def k0_dev187 (d0 : Dev nD) : Nat :=
  let c0_i32_4516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4489 : BitVec 32 := 2#32
  let v4907 : BitVec 32 := Scalar.xori v2 c2_i32_4489
  let c1_i32_4515 : BitVec 32 := 1#32
  let v4933 : BitVec 32 := Scalar.muli v4907 c1_i32_4515
  let v4934 : BitVec 32 := Scalar.addi c0_i32_4516 v4933
  v4934.toNat
def k0_dev188 (d0 : Dev nD) : Nat :=
  let c0_i32_4526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4489 : BitVec 32 := 2#32
  let v4907 : BitVec 32 := Scalar.xori v2 c2_i32_4489
  let c1_i32_4525 : BitVec 32 := 1#32
  let v4944 : BitVec 32 := Scalar.muli v4907 c1_i32_4525
  let v4945 : BitVec 32 := Scalar.addi c0_i32_4526 v4944
  v4945.toNat
def k0_dev189 (d0 : Dev nD) : Nat :=
  let c0_i32_4589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4582 : BitVec 32 := 4#32
  let v5016 : BitVec 32 := Scalar.xori v2 c4_i32_4582
  let c1_i32_4588 : BitVec 32 := 1#32
  let v5020 : BitVec 32 := Scalar.muli v5016 c1_i32_4588
  let v5021 : BitVec 32 := Scalar.addi c0_i32_4589 v5020
  v5021.toNat
def k0_dev190 (d0 : Dev nD) : Nat :=
  let c0_i32_4599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4582 : BitVec 32 := 4#32
  let v5016 : BitVec 32 := Scalar.xori v2 c4_i32_4582
  let c1_i32_4598 : BitVec 32 := 1#32
  let v5031 : BitVec 32 := Scalar.muli v5016 c1_i32_4598
  let v5032 : BitVec 32 := Scalar.addi c0_i32_4599 v5031
  v5032.toNat
def k0_dev191 (d0 : Dev nD) : Nat :=
  let c0_i32_4636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4629 : BitVec 32 := 16#32
  let v5071 : BitVec 32 := Scalar.xori v2 c16_i32_4629
  let c1_i32_4635 : BitVec 32 := 1#32
  let v5075 : BitVec 32 := Scalar.muli v5071 c1_i32_4635
  let v5076 : BitVec 32 := Scalar.addi c0_i32_4636 v5075
  v5076.toNat
def k0_dev192 (d0 : Dev nD) : Nat :=
  let c0_i32_4851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4843 : BitVec 32 := 16#32
  let v5229 : BitVec 32 := Scalar.xori v2 c16_i32_4843
  let c1_i32_4850 : BitVec 32 := 1#32
  let v5234 : BitVec 32 := Scalar.muli v5229 c1_i32_4850
  let v5235 : BitVec 32 := Scalar.addi c0_i32_4851 v5234
  v5235.toNat
def k0_dev193 (d0 : Dev nD) : Nat :=
  let c0_i32_4870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4862 : BitVec 32 := 4#32
  let v5250 : BitVec 32 := Scalar.xori v2 c4_i32_4862
  let c1_i32_4869 : BitVec 32 := 1#32
  let v5255 : BitVec 32 := Scalar.muli v5250 c1_i32_4869
  let v5256 : BitVec 32 := Scalar.addi c0_i32_4870 v5255
  v5256.toNat
def k0_dev194 (d0 : Dev nD) : Nat :=
  let c0_i32_4882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4862 : BitVec 32 := 4#32
  let v5250 : BitVec 32 := Scalar.xori v2 c4_i32_4862
  let c1_i32_4881 : BitVec 32 := 1#32
  let v5269 : BitVec 32 := Scalar.muli v5250 c1_i32_4881
  let v5270 : BitVec 32 := Scalar.addi c0_i32_4882 v5269
  v5270.toNat
def k0_dev195 (d0 : Dev nD) : Nat :=
  let c0_i32_4907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4899 : BitVec 32 := 2#32
  let v5291 : BitVec 32 := Scalar.xori v2 c2_i32_4899
  let c1_i32_4906 : BitVec 32 := 1#32
  let v5296 : BitVec 32 := Scalar.muli v5291 c1_i32_4906
  let v5297 : BitVec 32 := Scalar.addi c0_i32_4907 v5296
  v5297.toNat
def k0_dev196 (d0 : Dev nD) : Nat :=
  let c0_i32_4919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4899 : BitVec 32 := 2#32
  let v5291 : BitVec 32 := Scalar.xori v2 c2_i32_4899
  let c1_i32_4918 : BitVec 32 := 1#32
  let v5310 : BitVec 32 := Scalar.muli v5291 c1_i32_4918
  let v5311 : BitVec 32 := Scalar.addi c0_i32_4919 v5310
  v5311.toNat
def k0_dev197 (d0 : Dev nD) : Nat :=
  let c0_i32_4931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4899 : BitVec 32 := 2#32
  let v5291 : BitVec 32 := Scalar.xori v2 c2_i32_4899
  let c1_i32_4930 : BitVec 32 := 1#32
  let v5324 : BitVec 32 := Scalar.muli v5291 c1_i32_4930
  let v5325 : BitVec 32 := Scalar.addi c0_i32_4931 v5324
  v5325.toNat
def k0_dev198 (d0 : Dev nD) : Nat :=
  let c0_i32_4943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4899 : BitVec 32 := 2#32
  let v5291 : BitVec 32 := Scalar.xori v2 c2_i32_4899
  let c1_i32_4942 : BitVec 32 := 1#32
  let v5338 : BitVec 32 := Scalar.muli v5291 c1_i32_4942
  let v5339 : BitVec 32 := Scalar.addi c0_i32_4943 v5338
  v5339.toNat
def k0_dev199 (d0 : Dev nD) : Nat :=
  let c0_i32_4980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4972 : BitVec 32 := 8#32
  let v5372 : BitVec 32 := Scalar.xori v2 c8_i32_4972
  let c1_i32_4979 : BitVec 32 := 1#32
  let v5377 : BitVec 32 := Scalar.muli v5372 c1_i32_4979
  let v5378 : BitVec 32 := Scalar.addi c0_i32_4980 v5377
  v5378.toNat
def k0_dev200 (d0 : Dev nD) : Nat :=
  let c0_i32_4992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4972 : BitVec 32 := 8#32
  let v5372 : BitVec 32 := Scalar.xori v2 c8_i32_4972
  let c1_i32_4991 : BitVec 32 := 1#32
  let v5391 : BitVec 32 := Scalar.muli v5372 c1_i32_4991
  let v5392 : BitVec 32 := Scalar.addi c0_i32_4992 v5391
  v5392.toNat
def k0_dev201 (d0 : Dev nD) : Nat :=
  let c0_i32_5004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4972 : BitVec 32 := 8#32
  let v5372 : BitVec 32 := Scalar.xori v2 c8_i32_4972
  let c1_i32_5003 : BitVec 32 := 1#32
  let v5405 : BitVec 32 := Scalar.muli v5372 c1_i32_5003
  let v5406 : BitVec 32 := Scalar.addi c0_i32_5004 v5405
  v5406.toNat
def k0_dev202 (d0 : Dev nD) : Nat :=
  let c0_i32_5016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4972 : BitVec 32 := 8#32
  let v5372 : BitVec 32 := Scalar.xori v2 c8_i32_4972
  let c1_i32_5015 : BitVec 32 := 1#32
  let v5419 : BitVec 32 := Scalar.muli v5372 c1_i32_5015
  let v5420 : BitVec 32 := Scalar.addi c0_i32_5016 v5419
  v5420.toNat
def k0_dev203 (d0 : Dev nD) : Nat :=
  let c0_i32_5028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4972 : BitVec 32 := 8#32
  let v5372 : BitVec 32 := Scalar.xori v2 c8_i32_4972
  let c1_i32_5027 : BitVec 32 := 1#32
  let v5433 : BitVec 32 := Scalar.muli v5372 c1_i32_5027
  let v5434 : BitVec 32 := Scalar.addi c0_i32_5028 v5433
  v5434.toNat
def k0_dev204 (d0 : Dev nD) : Nat :=
  let c0_i32_5040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4972 : BitVec 32 := 8#32
  let v5372 : BitVec 32 := Scalar.xori v2 c8_i32_4972
  let c1_i32_5039 : BitVec 32 := 1#32
  let v5447 : BitVec 32 := Scalar.muli v5372 c1_i32_5039
  let v5448 : BitVec 32 := Scalar.addi c0_i32_5040 v5447
  v5448.toNat
def k0_dev205 (d0 : Dev nD) : Nat :=
  let c0_i32_5052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4972 : BitVec 32 := 8#32
  let v5372 : BitVec 32 := Scalar.xori v2 c8_i32_4972
  let c1_i32_5051 : BitVec 32 := 1#32
  let v5461 : BitVec 32 := Scalar.muli v5372 c1_i32_5051
  let v5462 : BitVec 32 := Scalar.addi c0_i32_5052 v5461
  v5462.toNat
def k0_dev206 (d0 : Dev nD) : Nat :=
  let c0_i32_5064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4972 : BitVec 32 := 8#32
  let v5372 : BitVec 32 := Scalar.xori v2 c8_i32_4972
  let c1_i32_5063 : BitVec 32 := 1#32
  let v5475 : BitVec 32 := Scalar.muli v5372 c1_i32_5063
  let v5476 : BitVec 32 := Scalar.addi c0_i32_5064 v5475
  v5476.toNat
def k0_dev207 (d0 : Dev nD) : Nat :=
  let c0_i32_5125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5124 : BitVec 32 := 1#32
  let v5538 : BitVec 32 := Scalar.muli v5533 c1_i32_5124
  let v5539 : BitVec 32 := Scalar.addi c0_i32_5125 v5538
  v5539.toNat
def k0_dev208 (d0 : Dev nD) : Nat :=
  let c0_i32_5137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5136 : BitVec 32 := 1#32
  let v5552 : BitVec 32 := Scalar.muli v5533 c1_i32_5136
  let v5553 : BitVec 32 := Scalar.addi c0_i32_5137 v5552
  v5553.toNat
def k0_dev209 (d0 : Dev nD) : Nat :=
  let c0_i32_5149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5148 : BitVec 32 := 1#32
  let v5566 : BitVec 32 := Scalar.muli v5533 c1_i32_5148
  let v5567 : BitVec 32 := Scalar.addi c0_i32_5149 v5566
  v5567.toNat
def k0_dev210 (d0 : Dev nD) : Nat :=
  let c0_i32_5161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5160 : BitVec 32 := 1#32
  let v5580 : BitVec 32 := Scalar.muli v5533 c1_i32_5160
  let v5581 : BitVec 32 := Scalar.addi c0_i32_5161 v5580
  v5581.toNat
def k0_dev211 (d0 : Dev nD) : Nat :=
  let c0_i32_5173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5172 : BitVec 32 := 1#32
  let v5594 : BitVec 32 := Scalar.muli v5533 c1_i32_5172
  let v5595 : BitVec 32 := Scalar.addi c0_i32_5173 v5594
  v5595.toNat
def k0_dev212 (d0 : Dev nD) : Nat :=
  let c0_i32_5185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5184 : BitVec 32 := 1#32
  let v5608 : BitVec 32 := Scalar.muli v5533 c1_i32_5184
  let v5609 : BitVec 32 := Scalar.addi c0_i32_5185 v5608
  v5609.toNat
def k0_dev213 (d0 : Dev nD) : Nat :=
  let c0_i32_5197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5196 : BitVec 32 := 1#32
  let v5622 : BitVec 32 := Scalar.muli v5533 c1_i32_5196
  let v5623 : BitVec 32 := Scalar.addi c0_i32_5197 v5622
  v5623.toNat
def k0_dev214 (d0 : Dev nD) : Nat :=
  let c0_i32_5209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5208 : BitVec 32 := 1#32
  let v5636 : BitVec 32 := Scalar.muli v5533 c1_i32_5208
  let v5637 : BitVec 32 := Scalar.addi c0_i32_5209 v5636
  v5637.toNat
def k0_dev215 (d0 : Dev nD) : Nat :=
  let c0_i32_5221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5220 : BitVec 32 := 1#32
  let v5650 : BitVec 32 := Scalar.muli v5533 c1_i32_5220
  let v5651 : BitVec 32 := Scalar.addi c0_i32_5221 v5650
  v5651.toNat
def k0_dev216 (d0 : Dev nD) : Nat :=
  let c0_i32_5233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5232 : BitVec 32 := 1#32
  let v5664 : BitVec 32 := Scalar.muli v5533 c1_i32_5232
  let v5665 : BitVec 32 := Scalar.addi c0_i32_5233 v5664
  v5665.toNat
def k0_dev217 (d0 : Dev nD) : Nat :=
  let c0_i32_5245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5244 : BitVec 32 := 1#32
  let v5678 : BitVec 32 := Scalar.muli v5533 c1_i32_5244
  let v5679 : BitVec 32 := Scalar.addi c0_i32_5245 v5678
  v5679.toNat
def k0_dev218 (d0 : Dev nD) : Nat :=
  let c0_i32_5257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5256 : BitVec 32 := 1#32
  let v5692 : BitVec 32 := Scalar.muli v5533 c1_i32_5256
  let v5693 : BitVec 32 := Scalar.addi c0_i32_5257 v5692
  v5693.toNat
def k0_dev219 (d0 : Dev nD) : Nat :=
  let c0_i32_5269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5268 : BitVec 32 := 1#32
  let v5706 : BitVec 32 := Scalar.muli v5533 c1_i32_5268
  let v5707 : BitVec 32 := Scalar.addi c0_i32_5269 v5706
  v5707.toNat
def k0_dev220 (d0 : Dev nD) : Nat :=
  let c0_i32_5281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5280 : BitVec 32 := 1#32
  let v5720 : BitVec 32 := Scalar.muli v5533 c1_i32_5280
  let v5721 : BitVec 32 := Scalar.addi c0_i32_5281 v5720
  v5721.toNat
def k0_dev221 (d0 : Dev nD) : Nat :=
  let c0_i32_5293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5292 : BitVec 32 := 1#32
  let v5734 : BitVec 32 := Scalar.muli v5533 c1_i32_5292
  let v5735 : BitVec 32 := Scalar.addi c0_i32_5293 v5734
  v5735.toNat
def k0_dev222 (d0 : Dev nD) : Nat :=
  let c0_i32_5305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5117 : BitVec 32 := 1#32
  let v5533 : BitVec 32 := Scalar.xori v2 c1_i32_5117
  let c1_i32_5304 : BitVec 32 := 1#32
  let v5748 : BitVec 32 := Scalar.muli v5533 c1_i32_5304
  let v5749 : BitVec 32 := Scalar.addi c0_i32_5305 v5748
  v5749.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x512 : Shape := ⟨2, ![2048, 512]⟩
abbrev S512x32768 : Shape := ⟨2, ![512, 32768]⟩
abbrev S32768x512 : Shape := ⟨2, ![32768, 512]⟩
abbrev S2048x32768 : Shape := ⟨2, ![2048, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32768, .f32⟩
  | .hbm, ⟨2, _⟩ => ⟨S512x32768, .f32⟩
  | .hbm, ⟨3, _⟩ => ⟨S512x32768, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S2048x32768, .f32⟩
  | .hbm, ⟨8, _⟩ => ⟨S_, .f32⟩
  | .hbm, ⟨9, _⟩ => ⟨S2048x32768, .f32⟩
  | .hbm, ⟨10, _⟩ => ⟨S2048x32768, .f32⟩
  | .hbm, ⟨11, _⟩ => ⟨S2048x512, .f32⟩
  | .hbm, ⟨12, _⟩ => ⟨S2048x32768, .f32⟩
  | .hbm, ⟨13, _⟩ => ⟨S_, .f32⟩
  | .hbm, ⟨14, _⟩ => ⟨S2048x32768, .f32⟩
  | .hbm, ⟨15, _⟩ => ⟨S2048x32768, .f32⟩
  | .hbm, ⟨16, _⟩ => ⟨S2048x512, .f32⟩
  | .hbm, ⟨17, _⟩ => ⟨S2048x32768, .f32⟩
  | .hbm, ⟨18, _⟩ => ⟨S_, .f32⟩
  | .hbm, ⟨19, _⟩ => ⟨S2048x32768, .f32⟩
  | .hbm, ⟨20, _⟩ => ⟨S2048x32768, .f32⟩
  | .hbm, ⟨21, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Rolled.lean ====
/-
# The kernel's body as the loops it was written with

The kernel's text is unrolled: every round of every butterfly stands in it operation by operation. Here the same
operations are written as loops over slots, layer by layer, and the two are the same program.
-/
module

public import proofs.«01_k».proof.Proof.Gen.KernelIdeal
public import proofs.«01_k».proof.Proof.Gen.KernelIdeal.Launch
public import Idealize.ShloMosaic.Lib.Pipeline.Regions

@[expose] public section

noncomputable section

namespace Cert.Butterfly

open Cert.KernelIdeal Cert.KernelIdeal.Gen
open Idealize.ShloMosaic Idealize.SL.Sem

variable {F : FTy → Type} [FloatOps F]

/-! ## Tables: what each slot sends, and to whom -/

/-- The block a gather slot sends, relative to the sender: it sends block `me ^ agRel s`. -/
def agRel : Fin 31 → Fin 32 :=
  ![0, 0, 16, 0, 16, 4, 20, 0, 16, 4, 20, 2, 18, 6, 22,
    0, 16, 4, 20, 2, 18, 6, 22, 8, 24, 12, 28, 10, 26, 14, 30]
/-- The partner of a gather slot, relative to the sender. -/
def agMask : Fin 31 → Fin 32 :=
  ![16, 4, 4, 2, 2, 2, 2, 8, 8, 8, 8, 8, 8, 8, 8, 1, 1, 1, 1, 1, 1, 1, 1, 1, 1, 1, 1, 1, 1, 1, 1]
/-- The block that lands with a gather slot's copy, relative to the receiver. -/
def agGot : Fin 31 → Fin 32 :=
  ![16, 4, 20, 2, 18, 6, 22, 8, 24, 12, 28, 10, 26, 14, 30,
    1, 17, 5, 21, 3, 19, 7, 23, 9, 25, 13, 29, 11, 27, 15, 31]
/-- The block a scatter slot's landing is added to, relative to the receiver. -/
def rsRel : Fin 31 → Fin 32 :=
  ![0, 8, 2, 10, 4, 12, 6, 14, 16, 24, 18, 26, 20, 28, 22, 30,
    0, 2, 4, 6, 16, 18, 20, 22, 0, 4, 16, 20, 0, 16, 0]
/-- The partner of a scatter slot, relative to the sender. -/
def rsMask : Fin 31 → Fin 32 :=
  ![1, 1, 1, 1, 1, 1, 1, 1, 1, 1, 1, 1, 1, 1, 1, 1, 8, 8, 8, 8, 8, 8, 8, 8, 2, 2, 2, 2, 4, 4, 16]
/-- The block a scatter slot sends, relative to the sender. -/
def rsSent : Fin 31 → Fin 32 :=
  ![1, 9, 3, 11, 5, 13, 7, 15, 17, 25, 19, 27, 21, 29, 23, 31,
    8, 10, 12, 14, 24, 26, 28, 30, 2, 6, 18, 22, 4, 20, 16]

/-- The slot numbered `n`. -/
def slot (n : Nat) : Fin 31 := Fin.ofNat 31 n

/-- The device the kernel computes from its own and a mask, as the kernel computes it. -/
def peerNat (d0 : Dev nD) (w : BitVec 32) : Nat :=
  (Scalar.addi 0#32 (Scalar.muli (Scalar.xori (Scalar.remsi (Scalar.divsi (Dev.word d0) 1#32) 32#32) w) 1#32)).toNat

/-- It is one of the mesh's. -/
theorem peerNat_lt : ∀ d0 : Dev nD, ∀ r : Fin 32, peerNat d0 (BitVec.ofNat 32 r.val) < nD := by decide +kernel

/-- The device a slot of mask `r` talks to. -/
def peerDev (d0 : Dev nD) (r : Fin 32) : Dev nD := ⟨peerNat d0 (BitVec.ofNat 32 r.val), peerNat_lt d0 r⟩

/-- Slot `i` of a semaphore array is inside it. -/
theorem slot_inb : ∀ i : Fin 31, ∀ a, (![i.val] : Fin 1 → Nat) a + S1.size a ≤ S31.size a := by decide
/-- Slot `i` of the staging buffer is inside it. -/
theorem stage_inb : ∀ i : Fin 31, ∀ a, (![64 * i.val, 0] : Fin 2 → Nat) a + S64x512.size a ≤ S1984x512.size a := by decide

/-- Slot `i` of a semaphore array. -/
def semAt (sm : DmaSems sig S31) (i : Fin 31) : DmaSem sig :=
  ((sm.slice (Rect.unit (s := S31) ![i.val] S1.size (slot_inb i))).squeeze S_ squeezes_S1_S_).sem

/-- Block `me ^ r` of a buffer of 32 blocks. -/
def blockAt (d0 : Dev nD) (mr : Memref sig .tc .vmem S2048x512 .f32) (r : Fin 32) : Memref sig .tc .vmem S64x512 .f32 :=
  mr.slice (Rect.unit (s := S2048x512) (k0_off2 d0 (BitVec.ofNat 32 r.val)) S64x512.size (k0_off2_inb d0 r)) (fun _ => rfl)

/-- Slot `i` of the staging buffer. -/
def stageAt (mr : Memref sig .tc .vmem S1984x512 .f32) (i : Fin 31) : Memref sig .tc .vmem S64x512 .f32 :=
  mr.slice (Rect.unit (s := S1984x512) ![64 * i.val, 0] S64x512.size (stage_inb i)) (fun _ => rfl)

/-! ## The operations -/

/-- A program of the kernel's core. -/
abbrev KProg (F : FTy → Type) [FloatOps F] (α : Type) := Prog (TpuEff nD τ sig (Elt F) Λ₀ .tc) α

/-- One copy to a peer. -/
def sendOp (d : Dev nD) (src dst : Memref sig .tc .vmem S64x512 .f32) (sS sR : DmaSem sig) : KProg F PUnit :=
  Prog.lift (.enqueueDma src (.remote (Dev.tc d) dst (.dma sS)) (.dma sR) (View.wordExact_bits rfl) (View.wordExact_bits rfl) ⟨⟨rfl, Or.inl rfl⟩, trivial⟩)

/-- One wait for a copy. -/
def waitOp (sm : DmaSem sig) (src dst : Memref sig .tc .vmem S64x512 .f32) : KProg F PUnit :=
  Prog.lift (.waitDma2 sm src dst (View.wordExact_bits rfl) (View.wordExact_bits rfl))

/-- `n` slots in order, from slot `lo`. -/
def loopN (f : Fin 31 → KProg F PUnit) (n : Nat) : Nat → KProg F PUnit :=
  Nat.rec (fun _ => pure ⟨⟩) (fun _ ih lo => f (slot lo) >>= fun _ => ih (lo + 1)) n

/-- A block's own place in a buffer of 32 blocks, read at an offset the kernel computes. -/
def loadBlk (mr : Memref sig .tc .vmem S2048x512 .f32) (off : Fin 2 → Nat) (h : ∀ a, off a + S64x512.size a ≤ S2048x512.size a) : KProg F (Vec F S64x512 .f32) :=
  Prog.lift (.load mr (Rect.unit (s := S2048x512) off S64x512.size h).toLoadRect (View.loadsAt_vmem h_S64x512))
/-- A block written there. -/
def storeBlk (mr : Memref sig .tc .vmem S2048x512 .f32) (off : Fin 2 → Nat) (h : ∀ a, off a + S64x512.size a ≤ S2048x512.size a) (v : FVec F S64x512 .f32) : KProg F PUnit :=
  Prog.lift (.store mr (Rect.unit (s := S2048x512) off S64x512.size h) v Finset.univ (View.stores_vmem_bits_univ h_S64x512 rfl) (.inl rfl))

/-- A block cast to its own shape. -/
def sameShape (a : Vec F S64x512 .f32) : FVec F S64x512 .f32 := shapeCast S64x512 a shapeCasts_S64x512_S64x512

/-- The sum of a block and what landed for it. -/
def addPay (a b : Vec F S64x512 .f32) : FVec F S64x512 .f32 :=
  shapeCast S64x512 (addf (F := F) a b) shapeCasts_S64x512_S64x512

/-! ## The butterflies -/

/-- A gather slot's copy. -/
def agSend (d0 : Dev nD) (tgt : Memref sig .tc .vmem S2048x512 .f32) (sS sR : DmaSems sig S31) (s : Fin 31) : KProg F PUnit :=
  sendOp (peerDev d0 (agMask s)) (blockAt d0 tgt (agRel s)) (blockAt d0 tgt (agRel s)) (semAt sS s) (semAt sR s)
/-- A gather slot's landing. -/
def agRecv (d0 : Dev nD) (tgt : Memref sig .tc .vmem S2048x512 .f32) (sR : DmaSems sig S31) (s : Fin 31) : KProg F PUnit :=
  waitOp (semAt sR s) (blockAt d0 tgt (agGot s)) (blockAt d0 tgt (agGot s))
/-- A gather slot's copy, done. -/
def agDone (d0 : Dev nD) (tgt : Memref sig .tc .vmem S2048x512 .f32) (sS : DmaSems sig S31) (s : Fin 31) : KProg F PUnit :=
  waitOp (semAt sS s) (blockAt d0 tgt (agRel s)) (blockAt d0 tgt (agRel s))

/-- A phase of the gather: `n` slots from `lo` sent, then awaited. -/
def agPhase (d0 : Dev nD) (tgt : Memref sig .tc .vmem S2048x512 .f32) (sS sR : DmaSems sig S31) (lo n : Nat) : KProg F PUnit :=
  loopN (agSend d0 tgt sS sR) n lo >>= fun _ => loopN (agRecv d0 tgt sR) n lo

/-- The gather. -/
def agAll (d0 : Dev nD) (tgt : Memref sig .tc .vmem S2048x512 .f32) (sS sR : DmaSems sig S31) : KProg F PUnit :=
  agPhase d0 tgt sS sR 0 1 >>= fun _ =>
  agPhase d0 tgt sS sR 1 2 >>= fun _ =>
  agPhase d0 tgt sS sR 3 4 >>= fun _ =>
  agPhase d0 tgt sS sR 7 8 >>= fun _ =>
  agPhase d0 tgt sS sR 15 16 >>= fun _ =>
  loopN (agDone d0 tgt sS) 31 0

/-- A scatter slot's copy. -/
def rsSend (d0 : Dev nD) (part : Memref sig .tc .vmem S2048x512 .f32) (stage : Memref sig .tc .vmem S1984x512 .f32) (sS sR : DmaSems sig S31) (s : Fin 31) : KProg F PUnit :=
  sendOp (peerDev d0 (rsMask s)) (blockAt d0 part (rsSent s)) (stageAt stage s) (semAt sS s) (semAt sR s)

/-- A scatter slot's landing, added to its block. -/
def rsRecv (d0 : Dev nD) (part : Memref sig .tc .vmem S2048x512 .f32) (stage : Memref sig .tc .vmem S1984x512 .f32) (sR : DmaSems sig S31) (s : Fin 31) : KProg F PUnit :=
  waitOp (semAt sR s) (blockAt d0 part (rsSent s)) (stageAt stage s) >>= fun _ =>
  loadBlk part (k0_off2 d0 (BitVec.ofNat 32 (rsRel s).val)) (k0_off2_inb d0 (rsRel s)) >>= fun a =>
  Prog.lift (.load stage (Rect.unit (s := S1984x512) ![64 * s.val, 0] S64x512.size (stage_inb s)).toLoadRect (View.loadsAt_vmem h_S64x512)) >>= fun b =>
  loadBlk part (k0_off2 d0 (BitVec.ofNat 32 (rsRel s).val)) (k0_off2_inb d0 (rsRel s)) >>= fun _ =>
  storeBlk part (k0_off2 d0 (BitVec.ofNat 32 (rsRel s).val)) (k0_off2_inb d0 (rsRel s)) (addPay a b)

/-- A scatter slot's copy, done. -/
def rsDone (d0 : Dev nD) (part : Memref sig .tc .vmem S2048x512 .f32) (stage : Memref sig .tc .vmem S1984x512 .f32) (sS : DmaSems sig S31) (s : Fin 31) : KProg F PUnit :=
  waitOp (semAt sS s) (stageAt stage s) (blockAt d0 part (rsSent s))

/-- A round of the scatter. -/
def rsRound (d0 : Dev nD) (part : Memref sig .tc .vmem S2048x512 .f32) (stage : Memref sig .tc .vmem S1984x512 .f32) (sS sR : DmaSems sig S31) (lo n : Nat) : KProg F PUnit :=
  loopN (rsSend d0 part stage sS sR) n lo >>= fun _ => loopN (rsRecv d0 part stage sR) n lo

/-- The scatter. -/
def rsAll (d0 : Dev nD) (part : Memref sig .tc .vmem S2048x512 .f32) (stage : Memref sig .tc .vmem S1984x512 .f32) (sS sR : DmaSems sig S31) : KProg F PUnit :=
  rsRound d0 part stage sS sR 0 16 >>= fun _ =>
  rsRound d0 part stage sS sR 16 8 >>= fun _ =>
  rsRound d0 part stage sS sR 24 4 >>= fun _ =>
  rsRound d0 part stage sS sR 28 2 >>= fun _ =>
  rsRound d0 part stage sS sR 30 1 >>= fun _ =>
  loopN (rsDone d0 part stage sS) 31 0

/-- A layer's own product: the device's share of both matrix products, from the gathered rows. -/
def mlp (x : Vec F S2048x512 .f32) (wi : Vec F S512x1024 .f32) (wo : Vec F S1024x512 .f32) : FVec F S2048x512 .f32 :=
  shapeCast S2048x512
    (matmul dot_S2048x1024_S1024x512_S2048x512_1_0_0_1_n_n none
      (maximumf
        (matmul dot_S2048x512_S512x1024_S2048x1024_1_0_0_1_n_n none x (shapeCast S512x1024 wi shapeCasts_S512x1024_S512x1024)
          (constant S2048x1024 .f32 0x00000000#32))
        (broadcast S2048x1024 (Scalar.ofBits .f32 0x00000000#32)))
      (shapeCast S1024x512 wo shapeCasts_S1024x512_S1024x512) (constant S2048x512 .f32 0x00000000#32))
    shapeCasts_S2048x512_S2048x512

/-- A whole buffer read. -/
def loadAll (mr : Memref sig .tc .vmem S2048x512 .f32) : KProg F (Vec F S2048x512 .f32) :=
  Prog.lift (.load mr (Rect.unit (s := S2048x512) ![0, 0] S2048x512.size inb_S2048x512_S2048x512_0_0).toLoadRect (View.loadsAt_vmem h_S2048x512))

/-- A layer: the product, the scatter, the own block handed over, the gather. -/
def layer (d0 : Dev nD) (x part : Memref sig .tc .vmem S2048x512 .f32) (stage : Memref sig .tc .vmem S1984x512 .f32)
    (wi : Memref sig .tc .vmem S512x1024 .f32) (wo : Memref sig .tc .vmem S1024x512 .f32) (tgt : Memref sig .tc .vmem S2048x512 .f32)
    (rS rR aS aR : DmaSems sig S31) (hand : Vec F S64x512 .f32 → FVec F S64x512 .f32) : KProg F PUnit :=
  loadAll x >>= fun vx =>
  Prog.lift (.load wi (Rect.unit (s := S512x1024) ![0, 0] S512x1024.size inb_S512x1024_S512x1024_0_0).toLoadRect (View.loadsAt_vmem h_S512x1024)) >>= fun vi =>
  Prog.lift (.load wo (Rect.unit (s := S1024x512) ![0, 0] S1024x512.size inb_S1024x512_S1024x512_0_0).toLoadRect (View.loadsAt_vmem h_S1024x512)) >>= fun vo =>
  loadAll part >>= fun _ =>
  Prog.lift (.store part (Rect.unit (s := S2048x512) ![0, 0] S2048x512.size inb_S2048x512_S2048x512_0_0) (mlp vx vi vo) Finset.univ (View.stores_vmem_bits_univ h_S2048x512 rfl) (.inl rfl)) >>= fun _ =>
  rsAll d0 part stage rS rR >>= fun _ =>
  loadBlk part (k0_off1 d0) (k0_off1_inb d0) >>= fun a =>
  loadBlk tgt (k0_off1 d0) (k0_off1_inb d0) >>= fun _ =>
  storeBlk tgt (k0_off1 d0) (k0_off1_inb d0) (hand a) >>= fun _ =>
  agAll d0 tgt aS aR

/-- The handshake's semaphore. -/
def barSem : Sem sig := (SemArray.scalar (sig.barrier 0 rfl) : Sems sig S_).sem

/-- The body. -/
def rolled (x : Memref sig .tc .vmem S64x512 .f32) (wi0 : Memref sig .tc .vmem S512x1024 .f32) (wo0 : Memref sig .tc .vmem S1024x512 .f32)
    (wi1 : Memref sig .tc .vmem S512x1024 .f32) (wo1 : Memref sig .tc .vmem S1024x512 .f32)
    (wi2 : Memref sig .tc .vmem S512x1024 .f32) (wo2 : Memref sig .tc .vmem S1024x512 .f32)
    (out xf part : Memref sig .tc .vmem S2048x512 .f32) (stage : Memref sig .tc .vmem S1984x512 .f32)
    (xS xR rS rR aS aR : DmaSems sig S31) : KProg F PUnit :=
  Prog.lift .deviceId >>= fun d0 : Dev nD =>
  semSignalWord (peerDev d0 1) barSem 1#32 >>= fun _ =>
  semSignalWord (peerDev d0 2) barSem 1#32 >>= fun _ =>
  semSignalWord (peerDev d0 4) barSem 1#32 >>= fun _ =>
  semSignalWord (peerDev d0 8) barSem 1#32 >>= fun _ =>
  semSignalWord (peerDev d0 16) barSem 1#32 >>= fun _ =>
  semWaitWord barSem 5#32 >>= fun _ =>
  Prog.lift (.load x (Rect.unit (s := S64x512) ![0, 0] S64x512.size inb_S64x512_S64x512_0_0).toLoadRect (View.loadsAt_vmem h_S64x512)) >>= fun v =>
  loadBlk xf (k0_off1 d0) (k0_off1_inb d0) >>= fun _ =>
  storeBlk xf (k0_off1 d0) (k0_off1_inb d0) (sameShape (sameShape v)) >>= fun _ =>
  agAll d0 xf xS xR >>= fun _ =>
  layer d0 xf part stage wi0 wo0 xf rS rR aS aR sameShape >>= fun _ =>
  layer d0 xf part stage wi1 wo1 xf rS rR aS aR sameShape >>= fun _ =>
  layer d0 xf part stage wi2 wo2 out rS rR aS aR id

set_option maxRecDepth 65536 in
/-- The kernel's body is the loops. -/
theorem body_eq (arg0 : Memref sig .tc .vmem S64x512 .f32) (harg0 : arg0.IsWhole) (arg1 : Memref sig .tc .vmem S512x1024 .f32) (harg1 : arg1.IsWhole) (arg2 : Memref sig .tc .vmem S1024x512 .f32) (harg2 : arg2.IsWhole) (arg3 : Memref sig .tc .vmem S512x1024 .f32) (harg3 : arg3.IsWhole) (arg4 : Memref sig .tc .vmem S1024x512 .f32) (harg4 : arg4.IsWhole) (arg5 : Memref sig .tc .vmem S512x1024 .f32) (harg5 : arg5.IsWhole) (arg6 : Memref sig .tc .vmem S1024x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S1984x512 .f32) (harg10 : arg10.IsWhole) (arg11 : DmaSems sig S31) (arg12 : DmaSems sig S31) (arg13 : DmaSems sig S31) (arg14 : DmaSems sig S31) (arg15 : DmaSems sig S31) (arg16 : DmaSems sig S31) :
    cc0_body (F := F) arg0 harg0 arg1 harg1 arg2 harg2 arg3 harg3 arg4 harg4 arg5 harg5 arg6 harg6 arg7 harg7 arg8 harg8 arg9 harg9 arg10 harg10 arg11 arg12 arg13 arg14 arg15 arg16
      = rolled (F := F) arg0 arg1 arg2 arg3 arg4 arg5 arg6 arg7 arg8 arg9 arg10 arg11 arg12 arg13 arg14 arg15 arg16 := by
  chain_rfl

end Cert.Butterfly

end
-- ==== Proof.Mesh.lean ====
/-
# The mesh and the tables

The thirty-two devices are the numbers below 32, and a slot's partner is a device's own number with one bit changed.
Here are the facts about the slots' tables that the protocol's bookkeeping uses: who sends what to whom, which slot of
one butterfly is the other's for the same partner, and how the blocks a device holds grow and shrink.
-/
module

public import proofs.«01_k».proof.Proof.Rolled

@[expose] public section

noncomputable section

namespace Cert.Butterfly

open Cert.KernelIdeal Cert.KernelIdeal.Gen
open Idealize.ShloMosaic Idealize.SL.Sem

variable {F : FTy → Type} [FloatOps F]

/-- Device `c` with the bits of `r` changed. -/
def xo (c : Dev nD) (r : Fin 32) : Dev nD := ⟨(c.val ^^^ r.val) % 32, Nat.mod_lt _ (by decide)⟩

/-- The kernel's chain of scalar operations computes it. -/
theorem peerDev_eq : ∀ c : Dev nD, ∀ r : Fin 32, peerDev c r = xo c r := by decide +kernel
/-- Changing the same bits twice changes nothing; -/
theorem xo_xo : ∀ (c : Dev nD) (r : Fin 32), xo (xo c r) r = c := by decide +kernel
/-- changing none changes nothing; -/
theorem xo_zero : ∀ c : Dev nD, xo c 0 = c := by decide +kernel
/-- different bits lead to different devices. -/
theorem xo_inj : ∀ (c : Dev nD) (r r' : Fin 32), xo c r = xo c r' → r = r' := by decide +kernel
/-- Every device is some number of bits away. -/
theorem xo_self : ∀ (c d : Dev nD), xo c (⟨(c.val ^^^ d.val) % 32, Nat.mod_lt _ (by decide)⟩ : Fin 32) = d := by decide +kernel

/-- Changing the bits of `r` is its own inverse. -/
def flip (r : Fin 32) : Dev nD ≃ Dev nD := ⟨fun c => xo c r, fun c => xo c r, fun c => xo_xo c r, fun c => xo_xo c r⟩
/-- The relative numbers of the devices, seen from `c`. -/
def rel (c : Dev nD) : Fin 32 ≃ Dev nD :=
  ⟨fun r => xo c r, fun d => ⟨(c.val ^^^ d.val) % 32, Nat.mod_lt _ (by decide)⟩,
    fun r => xo_inj c _ _ (xo_self c (xo c r)), fun d => xo_self c d⟩

/-- The offset the kernel computes for block `me ^ r`. -/
theorem off2_eq (c : Dev nD) (r : Fin 32) : k0_off2 c (BitVec.ofNat 32 r.val) = ![64 * (xo c r).val, 0] := by
  have h : ∀ c : Dev nD, ∀ r : Fin 32, ∀ a : Fin 2, k0_off2 c (BitVec.ofNat 32 r.val) a = (![64 * (xo c r).val, 0] : Fin 2 → Nat) a := by
    decide +kernel
  exact funext (h c r)

/-! ## Slots and phases -/

/-- The `n` slots from `lo`. -/
def seg (lo n : Nat) : Finset (Fin 31) := Finset.univ.filter fun s => lo ≤ s.val ∧ s.val < lo + n

/-- A run of no slots is empty; -/
theorem seg_zero (lo : Nat) : seg lo 0 = ∅ := by
  refine Finset.filter_eq_empty_iff.mpr ?_
  intro s _ h; omega
/-- a slot's number; -/
theorem slot_val {n : Nat} (h : n < 31) : (slot n).val = n := Nat.mod_eq_of_lt h
/-- the slot of its number; -/
theorem slot_of_val (s : Fin 31) : slot s.val = s := Fin.ext (slot_val s.isLt)
/-- a run of slots is its first and the rest, -/
theorem seg_succ {lo n : Nat} (h : lo + (n + 1) ≤ 31) : seg lo (n + 1) = insert (slot lo) (seg (lo + 1) n) := by
  ext s
  have hv := slot_val (n := lo) (by omega)
  simp only [seg, Finset.mem_filter, Finset.mem_univ, true_and, Finset.mem_insert, Fin.ext_iff, hv]
  omega
/-- in which the first isn't. -/
theorem seg_notMem {lo n : Nat} (h : lo < 31) : slot lo ∉ seg (lo + 1) n := by
  have hv := slot_val h
  simp only [seg, Finset.mem_filter, Finset.mem_univ, true_and, hv]
  omega

/-- The phase of a gather slot. -/
def agPh : Fin 31 → Fin 5 := ![0, 1, 1, 2, 2, 2, 2, 3, 3, 3, 3, 3, 3, 3, 3, 4, 4, 4, 4, 4, 4, 4, 4, 4, 4, 4, 4, 4, 4, 4, 4]
/-- The round of a scatter slot. -/
def rsPh : Fin 31 → Fin 5 := ![0, 0, 0, 0, 0, 0, 0, 0, 0, 0, 0, 0, 0, 0, 0, 0, 1, 1, 1, 1, 1, 1, 1, 1, 2, 2, 2, 2, 3, 3, 4]
/-- The gather slot with the partner of a scatter slot, each used once, -/
def toAg : Fin 31 → Fin 31 := ![15, 16, 17, 18, 19, 20, 21, 22, 23, 24, 25, 26, 27, 28, 29, 30, 7, 8, 9, 10, 11, 12, 13, 14, 3, 4, 5, 6, 1, 2, 0]
/-- and back. -/
def toRs : Fin 31 → Fin 31 := ![30, 28, 29, 24, 25, 26, 27, 16, 17, 18, 19, 20, 21, 22, 23, 0, 1, 2, 3, 4, 5, 6, 7, 8, 9, 10, 11, 12, 13, 14, 15]
/-- The first gather phase before which a device holds a block, by the block's relative number. -/
def birth : Fin 32 → Nat := fun r => if r.val % 2 = 1 then 5 else if r.val / 8 % 2 = 1 then 4 else if r.val / 2 % 2 = 1 then 3 else if r.val / 4 % 2 = 1 then 2 else if r.val / 16 % 2 = 1 then 1 else 0

/-- The two tables undo each other, -/
theorem toRs_toAg : ∀ s, toRs (toAg s) = s := by decide
/-- both ways; -/
theorem toAg_toRs : ∀ s, toAg (toRs s) = s := by decide
/-- and they keep the partner, -/
theorem agMask_toAg : ∀ s, agMask (toAg s) = rsMask s := by decide
/-- both ways. -/
theorem rsMask_toRs : ∀ s, rsMask (toRs s) = agMask s := by decide
/-- The two ways to name what a gather slot moves. -/
theorem ag_got : ∀ (c : Dev nD) (s : Fin 31), xo (xo c (agMask s)) (agGot s) = xo c (agRel s) := by decide +kernel
/-- And from the other side. -/
theorem ag_rel : ∀ (c : Dev nD) (s : Fin 31), xo (xo c (agMask s)) (agRel s) = xo c (agGot s) := by decide +kernel
/-- The same of a scatter slot, -/
theorem rs_sent : ∀ (c : Dev nD) (s : Fin 31), xo (xo c (rsMask s)) (rsSent s) = xo c (rsRel s) := by decide +kernel
/-- from both sides. -/
theorem rs_rel : ∀ (c : Dev nD) (s : Fin 31), xo (xo c (rsMask s)) (rsRel s) = xo c (rsSent s) := by decide +kernel

/-- The pairing as an equivalence of slots. -/
def pairing : Fin 31 ≃ Fin 31 := ⟨toAg, toRs, toRs_toAg, toAg_toRs⟩

end Cert.Butterfly

end
-- ==== Proof.Cells.lean ====
/-
# The protocol: cells, payloads, schedule

Every device has one handshake cell and six arrays of 31 transfer cells. The kernel's transfers come in seven STAGES of
31: the first gather (stage 0), and for each layer a scatter (stages 1, 3, 5) and a gather (stages 2, 4, 6). A transfer
cell's rounds are the stages that use its array.

A transfer needs to know that its destination is free. The device whose memory it is says so by a GRANT of that
memory, given to the partner one stage earlier, with the transfer of the same partner in that stage (the handshake gives
those of stages 0 and 1).
-/
module

public import proofs.«01_k».proof.Proof.Mesh
public import proofs.«01_k».proof.Proof.Gen.KernelIdeal.Skeleton
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The butterflies' rounds: duties named by masks. -/
abbrev UB : Type := URounds (GSem nD τ sig) (Fin 32)
/-- The ghost state: the pipeline's and the butterflies'. -/
abbrev UU : Type := UR sig nD τ × UB

/-- The assertions, over float values `F`; credits are told apart by the layer. -/
abbrev MM (F : FTy → Type) : Type := MT nD τ sig ℕ (Elt F) ℕ UU ℕ

local notation "𝕄" => MM F

/-- The pipeline's part of it, -/
abbrev EP : Emb (UR sig nD τ) (MM F) := embL
/-- and the butterflies'. -/
abbrev ER : Emb UB (MM F) := embR

/-- The contents of one block. -/
abbrev Blk (F : FTy → Type) : Type := Vec F S64x512 .f32

/-! ## Memrefs -/

/-- The staged input block, -/
abbrev xM : Memref sig .tc .vmem S64x512 .f32 := Memref.whole cc0_stg0_0
/-- the staged result, -/
abbrev outM : Memref sig .tc .vmem S2048x512 .f32 := Memref.whole cc0_stg7_0
/-- the gathered buffer, -/
abbrev xfM : Memref sig .tc .vmem S2048x512 .f32 := Memref.whole cc0_scratch0
/-- the buffer of sums, -/
abbrev partM : Memref sig .tc .vmem S2048x512 .f32 := Memref.whole cc0_scratch1
/-- and the staging buffer. -/
abbrev stageM : Memref sig .tc .vmem S1984x512 .f32 := Memref.whole cc0_scratch2

/-- A block lies inside a buffer of 32 blocks. -/
theorem blk_inb : ∀ b : Dev nD, ∀ a, (![64 * b.val, 0] : Fin 2 → Nat) a + S64x512.size a ≤ S2048x512.size a := by decide +kernel

/-- Block `b`'s rectangle of a buffer of 32 blocks. -/
abbrev blkR (b : Dev nD) : Rect S2048x512 := Rect.unit (s := S2048x512) ![64 * b.val, 0] S64x512.size (blk_inb b)
/-- Block `b` of a buffer of 32 blocks. -/
def blkM (mr : Memref sig .tc .vmem S2048x512 .f32) (b : Dev nD) : Memref sig .tc .vmem S64x512 .f32 :=
  mr.slice (blkR b) (fun _ => rfl)

/-- The block the kernel addresses relative to its own number. -/
theorem blockAt_eq (c : Dev nD) (mr : Memref sig .tc .vmem S2048x512 .f32) (r : Fin 32) : blockAt c mr r = blkM mr (xo c r) := by
  exact Memref.slice_unit_congr mr (off2_eq c r) _ _ (fun _ => rfl) (fun _ => rfl)

/-- The buffer stage `j`'s gather fills. -/
def tgtM (j : Nat) : Memref sig .tc .vmem S2048x512 .f32 := if j = 6 then outM else xfM

/-! ## Cells -/

/-- The six semaphore arrays. -/
def arr : Fin 6 → DmaSems sig S31 := ![cc0_scratch3, cc0_scratch4, cc0_scratch5, cc0_scratch6, cc0_scratch7, cc0_scratch8]

/-- Slot `s` of array `k`. -/
def sem (k : Fin 6) (s : Fin 31) : DmaSem sig := semAt (arr k) s

/-- The number of a transfer semaphore. -/
theorem sem_val : ∀ (k : Fin 6) (s : Fin 31), (sem k s).val = 8 + (31 * k.val + s.val) := by decide +kernel

/-- Different slots have different semaphores. -/
theorem sem_inj {k k' : Fin 6} {s s' : Fin 31} (h : sem k s = sem k' s') : k = k' ∧ s = s' := by
  have h1 := sem_val k s
  rw [h, sem_val] at h1
  have := s.isLt; have := s'.isLt
  exact ⟨Fin.ext (by omega), Fin.ext (by omega)⟩

/-- A device's transfer cell. -/
abbrev cell (c : Dev nD) (k : Fin 6) (s : Fin 31) : GSem nD τ sig := ((c : Thread nD τ), .dma (sem k s))
/-- A device's handshake cell. -/
abbrev barCell (c : Dev nD) : GSem nD τ sig := ((c : Thread nD τ), .reg barSem)

/-- The array a transfer semaphore belongs to, -/
def kindOf (q : DmaSem sig) : Nat := (q.val - 8) / 31
/-- and its slot there. -/
def slotOf (q : DmaSem sig) : Fin 31 := slot ((q.val - 8) % 31)

/-- A slot's semaphore has the slot's array -/
theorem kindOf_sem (k : Fin 6) (s : Fin 31) : kindOf (sem k s) = k.val := by
  unfold kindOf; rw [sem_val]; have := s.isLt; omega
/-- and its slot, -/
theorem slotOf_sem (k : Fin 6) (s : Fin 31) : slotOf (sem k s) = s := by
  unfold slotOf; rw [sem_val]
  have := s.isLt
  rw [show (8 + (31 * k.val + s.val) - 8) % 31 = s.val by omega, slot_of_val]
/-- and is none of the pipeline's eight. -/
theorem sem_ge (k : Fin 6) (s : Fin 31) : 8 ≤ (sem k s).val := by rw [sem_val]; omega

/-! ## Stages -/

/-- The array of a stage's send cells. -/
def sK (j : Nat) : Fin 6 := if j = 0 then 0 else if j % 2 = 1 then 2 else 4
/-- The array of a stage's receive cells. -/
def rK (j : Nat) : Fin 6 := if j = 0 then 1 else if j % 2 = 1 then 3 else 5
/-- The round of those cells, and the index of their credits: the layer. -/
def ix (j : Nat) : Nat := (j - 1) / 2
/-- The stage of a round of an array. -/
def stageOf (k r : Nat) : Nat := if k < 2 then 0 else if k < 4 then 1 + 2 * r else 2 + 2 * r
/-- The rounds an array's cells have. -/
def rounds (k : Nat) : Nat := if k < 2 then 1 else 3

/-- The stage read back from a send cell's array and round, -/
theorem stageOf_sK (j : Nat) : stageOf (sK j).val (ix j) = j := by
  unfold stageOf sK ix
  split_ifs with h1 h2 <;> simp at * <;> omega
/-- and from a receive cell's. -/
theorem stageOf_rK (j : Nat) : stageOf (rK j).val (ix j) = j := by
  unfold stageOf rK ix
  split_ifs with h1 h2 <;> simp at * <;> omega
/-- A stage's round is one of its send cells' rounds, -/
theorem ix_lt_sK {j : Nat} (h : j < 7) : ix j < rounds (sK j).val := by
  unfold rounds sK ix
  split_ifs <;> simp at * <;> omega
/-- and one of its receive cells'. -/
theorem ix_lt_rK {j : Nat} (h : j < 7) : ix j < rounds (rK j).val := by
  unfold rounds rK ix
  split_ifs <;> simp at * <;> omega
/-- Send arrays have even numbers, -/
theorem sK_even (j : Nat) : (sK j).val % 2 = 0 := by unfold sK; split_ifs <;> rfl
/-- receive arrays odd ones. -/
theorem rK_odd (j : Nat) : (rK j).val % 2 = 1 := by unfold rK; split_ifs <;> rfl

/-- The partner of a slot in a stage, relative to the device. -/
def mask (j : Nat) (s : Fin 31) : Fin 32 := if j % 2 = 1 then rsMask s else agMask s
/-- The phase of a slot in a stage. -/
def ph (j : Nat) (s : Fin 31) : Nat := if j % 2 = 1 then (rsPh s).val else (agPh s).val
/-- The slot of the next stage that has the same partner. -/
def next (j : Nat) (s : Fin 31) : Fin 31 := if j % 2 = 1 then toAg s else toRs s

/-- The slot paired with a slot in the next stage has the same partner. -/
theorem mask_next (j : Nat) (s : Fin 31) : mask (j + 1) (next j s) = mask j s := by
  unfold mask next
  rcases Nat.mod_two_eq_zero_or_one j with h | h
  · rw [if_pos (by omega), if_neg (by omega), if_neg (by omega), rsMask_toRs]
  · rw [if_neg (by omega), if_pos h, if_pos h, agMask_toAg]

/-- The slots of a stage, and those of the next stage with the same partners, as an equivalence. -/
def nextEquiv (j : Nat) : Fin 31 ≃ Fin 31 := if j % 2 = 1 then pairing else pairing.symm
/-- The equivalence is that pairing. -/
theorem nextEquiv_apply (j : Nat) (s : Fin 31) : nextEquiv j s = next j s := by
  unfold nextEquiv next; split_ifs <;> rfl

/-! ## The values that travel -/

/-- What the blocks hold: `P l r c b` is device `c`'s running sum for block `b` in layer `l` before scatter round `r`,
    `Y g b` block `b` as gathered by gather `g` (the inputs', then each layer's result). -/
structure Vals (F : FTy → Type) where
  P : Nat → Nat → Dev nD → Dev nD → Blk F
  Y : Nat → Dev nD → Blk F

variable (V : Vals F)

/-- The share of a block a device still has at gather phase `p`: every send of it lent out the left half of what was left. -/
def shr (p : Nat) (r : Fin 32) : PosShare TreeShare := Nat.rec fullShare (fun _ q => q.right) (p - birth r)

/-- A block not held yet will be held whole. -/
theorem shr_birth {p : Nat} {r : Fin 32} (h : p ≤ birth r) : shr p r = fullShare := by
  unfold shr; rw [Nat.sub_eq_zero_of_le h]; rfl
/-- After each phase the right half is left. -/
theorem shr_succ {p : Nat} {r : Fin 32} (h : birth r ≤ p) : shr (p + 1) r = (shr p r).right := by
  unfold shr; rw [Nat.succ_sub h]

/-- Where a stage's copy comes from on its sender, -/
def src (j : Nat) (c : Dev nD) (s : Fin 31) : Memref sig .tc .vmem S64x512 .f32 :=
  if j % 2 = 1 then blkM partM (xo c (rsSent s)) else blkM (tgtM j) (xo c (agRel s))
/-- the share of it the copy takes, -/
def srcShr (j : Nat) (s : Fin 31) : PosShare TreeShare :=
  if j % 2 = 1 then fullShare else (shr (agPh s).val (agRel s)).left
/-- what it holds, -/
def srcVal (j : Nat) (c : Dev nD) (s : Fin 31) : Blk F :=
  if j % 2 = 1 then V.P (ix j) (rsPh s).val c (xo c (rsSent s)) else V.Y (j / 2) (xo c (agRel s))
/-- and where it lands on its receiver. -/
def dst (j : Nat) (c : Dev nD) (s : Fin 31) : Memref sig .tc .vmem S64x512 .f32 :=
  if j % 2 = 1 then stageAt stageM s else blkM (tgtM j) (xo c (agGot s))

/-- The credit of a block's transfer. -/
def N : ℕ := (stageAt stageM 0).view.dmaCredit
/-- That credit is positive. -/
theorem N_pos : 0 < N := View.dmaCredit_pos _ (by decide)
/-- A block of a buffer has that credit, -/
theorem credit_blk (mr : Memref sig .tc .vmem S2048x512 .f32) (h : mr = outM ∨ mr = xfM ∨ mr = partM) (b : Dev nD) :
    (blkM mr b).view.dmaCredit = N := by rcases h with rfl | rfl | rfl <;> rfl
/-- and so has a staging slot. -/
theorem credit_stage (s : Fin 31) : (stageAt stageM s).view.dmaCredit = N := rfl
/-- A stage's buffer is one of the three. -/
theorem tgtM_cases (j : Nat) : tgtM j = outM ∨ tgtM j = xfM ∨ tgtM j = partM := by
  unfold tgtM; split_ifs <;> simp
/-- So every destination has that credit, -/
theorem credit_dst (j : Nat) (c : Dev nD) (s : Fin 31) : (dst j c s).view.dmaCredit = N := by
  unfold dst; split_ifs
  · exact credit_stage s
  · exact credit_blk _ (tgtM_cases j) _
/-- and every source. -/
theorem credit_src (j : Nat) (c : Dev nD) (s : Fin 31) : (src j c s).view.dmaCredit = N := by
  unfold src; split_ifs
  · exact credit_blk _ (.inr (.inr rfl)) _
  · exact credit_blk _ (tgtM_cases j) _

/-! ## Payloads -/

/-- Device `c`'s grant of slot `s`'s destination in stage `j`: the memory, and that its receive cell is at that round. -/
def grant (j : Nat) (c : Dev nD) (s : Fin 31) : sProp 𝕄 :=
  iprop((∃ v : Blk F, ownsTc c (dst j c s) fullShare v) ∗ reached ER (cell c (rK j) s) (ix j))

/-- The grant of the next stage that travels with a transfer to device `c`: that of its sender's memory. -/
def extra (j : Nat) (c : Dev nD) (s : Fin 31) : sProp 𝕄 :=
  if j = 0 ∨ j = 6 then iprop(emp) else grant (F := F) (j + 1) (xo c (mask j s)) (next j s)

/-- What a copy's arrival hands device `c`: the destination, holding what was sent, and the next stage's grant. -/
def recvPay (j : Nat) (c : Dev nD) (s : Fin 31) : sProp 𝕄 :=
  iprop(ownsTc c (dst j c s) fullShare (srcVal V j (xo c (mask j s)) s) ∗ extra (F := F) j c s)
/-- What a copy's departure hands back: the share of the source. -/
def sendPay (j : Nat) (c : Dev nD) (s : Fin 31) : sProp 𝕄 :=
  ownsTc c (src j c s) (srcShr j s) (srcVal V j c s)
/-- What the handshake's signal over mask `d` hands device `c`: the grants of stages 0 and 1 that partner gives. -/
def barPay (c : Dev nD) (d : Fin 32) : sProp 𝕄 :=
  bigSep (Finset.univ.filter fun s => agMask s = d) fun s =>
    iprop(grant (F := F) 0 (xo c d) s ∗ grant (F := F) 1 (xo c d) (toRs s))

omit [FloatOps F] in
/-- A grant can be kept in an invariant; -/
instance grant_storable (j : Nat) (c : Dev nD) (s : Fin 31) : BI.Storable (upEmb : UEmb _ 𝕄) (grant (F := F) j c s) := by
  unfold grant; infer_instance
omit [FloatOps F] in
/-- so can the next stage's; -/
instance extra_storable (j : Nat) (c : Dev nD) (s : Fin 31) : BI.Storable (upEmb : UEmb _ 𝕄) (extra (F := F) j c s) := by
  unfold extra; split_ifs <;> infer_instance
omit [FloatOps F] in
/-- what an arrival hands over; -/
instance recvPay_storable (j : Nat) (c : Dev nD) (s : Fin 31) : BI.Storable (upEmb : UEmb _ 𝕄) (recvPay V j c s) := by
  unfold recvPay; infer_instance
omit [FloatOps F] in
/-- what a departure hands back; -/
instance sendPay_storable (j : Nat) (c : Dev nD) (s : Fin 31) : BI.Storable (upEmb : UEmb _ 𝕄) (sendPay V j c s) := by
  unfold sendPay; infer_instance
omit [FloatOps F] in
/-- and what a signal hands over. -/
instance barPay_storable (c : Dev nD) (d : Fin 32) : BI.Storable (upEmb : UEmb _ 𝕄) (barPay (F := F) c d) := by
  unfold barPay; infer_instance

/-! ## The schedule -/

/-- The handshake's masks. -/
def masks : Finset (Fin 32) := {1, 2, 4, 8, 16}

/-- A handshake cell has one round, a unit from each of the five partners; a transfer cell one duty a round, the block's credit. -/
def Rd : Rounds.Schedule (GSem nD τ sig) (Fin 32) 𝕄 where
  duties g r := if g.1.2 = .tc then (match g.2 with
    | .reg b => if b = barSem ∧ r = 0 then masks else ∅
    | .dma q => if 8 ≤ q.val ∧ r < rounds (kindOf q) then {0} else ∅) else ∅
  unitless _ := False
  amount g _ _ := match g.2 with | .reg _ => 1 | .dma _ => N
  payload g r d := match g.2 with
    | .reg _ => barPay (F := F) g.1.1 d
    | .dma q => if kindOf q % 2 = 1 then recvPay V (stageOf (kindOf q) r) g.1.1 (slotOf q) else sendPay V (stageOf (kindOf q) r) g.1.1 (slotOf q)
  amount_pos g _ _ _ := by
    rcases g with ⟨_, b | q⟩
    · exact Nat.one_pos
    · exact N_pos

omit [FloatOps F] in
/-- Every payload of the schedule can be kept in an invariant. -/
instance Rd_payload_storable (g : GSem nD τ sig) (r : ℕ) (d : Fin 32) : BI.Storable (upEmb : UEmb _ 𝕄) ((Rd V).payload g r d) := by
  rcases g with ⟨t, b | q⟩
  · show BI.Storable upEmb (barPay (F := F) t.1 d); infer_instance
  · show BI.Storable upEmb (if kindOf q % 2 = 1 then recvPay V (stageOf (kindOf q) r) t.1 (slotOf q) else sendPay V (stageOf (kindOf q) r) t.1 (slotOf q))
    split_ifs <;> infer_instance

section Sched
variable (c : Dev nD)

omit [FloatOps F] in
/-- The handshake's round has the five masks as its duties; -/
theorem duties_bar : (Rd V).duties (barCell c) 0 = masks := by
  unfold Rd
  dsimp only
  rw [if_pos rfl, if_pos ⟨rfl, rfl⟩]
omit [FloatOps F] in
/-- a transfer cell's round has one duty; -/
theorem duties_cell {k : Fin 6} {r : Nat} (s : Fin 31) (h : r < rounds k.val) : (Rd V).duties (cell c k s) r = {0} := by
  unfold Rd
  dsimp only
  rw [if_pos rfl, if_pos ⟨sem_ge k s, by rw [kindOf_sem]; exact h⟩]
omit [FloatOps F] in
/-- the handshake cell has no later round, -/
theorem duties_bar_later : ∀ r, 1 ≤ r → (Rd V).duties (barCell c) r = ∅ := fun r hr => by
  unfold Rd
  dsimp only
  rw [if_pos rfl, if_neg (fun h => by have := h.2; omega)]
omit [FloatOps F] in
/-- and a transfer cell none after its last. -/
theorem duties_cell_later (k : Fin 6) (s : Fin 31) : ∀ r, rounds k.val ≤ r → (Rd V).duties (cell c k s) r = ∅ := fun r hr => by
  unfold Rd
  dsimp only
  rw [if_pos rfl, if_neg (fun h => by have := h.2; rw [kindOf_sem] at this; omega)]
omit [FloatOps F] in
/-- A signal pays one unit, -/
theorem amount_bar (d : Fin 32) : (Rd V).amount (barCell c) 0 d = 1 := rfl
omit [FloatOps F] in
/-- a transfer the block's credit. -/
theorem amount_cell (k : Fin 6) (s : Fin 31) (r : Nat) (d : Fin 32) : (Rd V).amount (cell c k s) r d = N := rfl
omit [FloatOps F] in
/-- So the handshake expects five units, -/
theorem expect_bar : (Rd V).expect (barCell c) 0 = 5 := by
  unfold Schedule.expect Schedule.amountOf
  rw [duties_bar, Finset.sum_congr rfl fun d _ => amount_bar V c d]
  decide
omit [FloatOps F] in
/-- and a transfer cell the block's credit in each round. -/
theorem expect_cell {k : Fin 6} {r : Nat} (s : Fin 31) (h : r < rounds k.val) : (Rd V).expect (cell c k s) r = N := by
  unfold Schedule.expect Schedule.amountOf
  rw [duties_cell V c s h, Finset.sum_singleton, amount_cell]
omit [FloatOps F] in
/-- What the schedule hands over for a signal, -/
theorem payload_bar (d : Fin 32) : (Rd V).payload (barCell c) 0 d = barPay (F := F) c d := rfl
omit [FloatOps F] in
/-- for a departure, -/
theorem payload_send (j : Nat) (s : Fin 31) (d : Fin 32) : (Rd V).payload (cell c (sK j) s) (ix j) d = sendPay V j c s := by
  show (if _ then _ else _) = _
  rw [if_neg (by rw [kindOf_sem]; have := sK_even j; omega), kindOf_sem, slotOf_sem, stageOf_sK]
omit [FloatOps F] in
/-- and for an arrival. -/
theorem payload_recv (j : Nat) (s : Fin 31) (d : Fin 32) : (Rd V).payload (cell c (rK j) s) (ix j) d = recvPay V j c s := by
  show (if _ then _ else _) = _
  rw [if_pos (by rw [kindOf_sem]; exact rK_odd j), kindOf_sem, slotOf_sem, stageOf_rK]
omit [FloatOps F] in
/-- All that a wait for a departure gets, -/
theorem rest_send {j : Nat} (h : j < 7) (s : Fin 31) :
    bigSep ((Rd V).duties (cell c (sK j) s) (ix j) \ ∅) (fun d => (Rd V).payload (cell c (sK j) s) (ix j) d) = sendPay V j c s := by
  rw [Finset.sdiff_empty, duties_cell V c s (ix_lt_sK h), bigSep_singleton, payload_send]
omit [FloatOps F] in
/-- for an arrival, -/
theorem rest_recv {j : Nat} (h : j < 7) (s : Fin 31) :
    bigSep ((Rd V).duties (cell c (rK j) s) (ix j) \ ∅) (fun d => (Rd V).payload (cell c (rK j) s) (ix j) d) = recvPay V j c s := by
  rw [Finset.sdiff_empty, duties_cell V c s (ix_lt_rK h), bigSep_singleton, payload_recv]
omit [FloatOps F] in
/-- and for the handshake. -/
theorem rest_bar :
    bigSep ((Rd V).duties (barCell c) 0 \ ∅) (fun d => (Rd V).payload (barCell c) 0 d) = bigSep masks fun d => barPay (F := F) c d := by
  rw [Finset.sdiff_empty, duties_bar]; rfl

end Sched

/-! ## What each device owes, and the levels -/

/-- A device's dues: the handshake's five signals, then the transfers of the seven stages. -/
abbrev Due : Type := Fin 5 ⊕ (Fin 7 × Fin 31)

/-- The handshake's masks in the order of the signals. -/
def barMask : Fin 5 → Fin 32 := ![1, 2, 4, 8, 16]

/-- The place of a due in the program's order. -/
def pos : Due → Nat
  | .inl i => i.val
  | .inr (j, s) => 5 + (31 * j.val + s.val)

/-- Different dues have different places. -/
theorem pos_inj {p p' : Due} (h : pos p = pos p') : p = p' := by
  rcases p with i | ⟨j, s⟩ <;> rcases p' with i' | ⟨j', s'⟩ <;> simp only [pos] at h
  · exact congrArg _ (Fin.ext h)
  · have := i.isLt; omega
  · have := i'.isLt; omega
  · have h1 := s.isLt; have h2 := s'.isLt
    have hj : j = j' := Fin.ext (by omega)
    have hs : s = s' := Fin.ext (by subst hj; omega)
    rw [hj, hs]

/-- The partner whose cell a due pays, relative to the device, -/
def dueMask : Due → Fin 32
  | .inl i => barMask i
  | .inr (j, s) => mask j.val s
/-- the semaphore, -/
def dueSem : Due → SemLoc sig
  | .inl _ => .reg barSem
  | .inr (j, s) => .dma (sem (rK j.val) s)
/-- the index, -/
def dueIx : Due → Nat
  | .inl _ => 0
  | .inr (j, _) => ix j.val
/-- and the amount. -/
def dueAmt : Due → Nat
  | .inl _ => 1
  | .inr _ => N

/-- One due of device `c`. -/
def due (c : Dev nD) (p : Due) : CellTallies nD τ sig ℕ := tallyAt (((xo c (dueMask p) : Dev nD) : Thread nD τ), dueSem p) (dueIx p) (dueAmt p)

/-- What device `c` still owes when `n` dues are paid. -/
def owed (c : Dev nD) (n : Nat) : CellTallies nD τ sig ℕ := ∑ p ∈ Finset.univ.filter (fun p : Due => n ≤ pos p), due c p

/-- The next due is paid off what is owed. -/
theorem owed_peel (c : Dev nD) (p : Due) : owed c (pos p) = owed c (pos p + 1) + due c p := by
  unfold owed
  rw [add_comm, ← Finset.sum_insert (by simp)]
  congr 1
  ext p'
  simp only [Finset.mem_filter, Finset.mem_univ, true_and, Finset.mem_insert]
  constructor
  · intro h
    rcases Nat.eq_or_lt_of_le h with h | h
    · exact .inl (pos_inj h.symm)
    · exact .inr h
  · rintro (rfl | h) <;> omega

/-- With every due paid, nothing is owed. -/
theorem owed_all (c : Dev nD) : owed c 222 = 0 := by
  unfold owed
  rw [Finset.filter_eq_empty_iff.mpr, Finset.sum_empty]
  intro p _ h
  rcases p with i | ⟨j, s⟩ <;> simp only [pos] at h <;> omega

/-- Something owed is owed by one of the dues not yet paid. -/
theorem owed_pos {c : Dev nD} {n : Nat} {g : GSem nD τ sig} {u : ℕ} (h : 0 < owed c n g u) :
    ∃ p : Due, n ≤ pos p ∧ g = (((xo c (dueMask p) : Dev nD) : Thread nD τ), dueSem p) ∧ u = dueIx p := by
  by_contra hn
  push Not at hn
  have h0 : owed c n g u = 0 := by
    unfold owed
    rw [Finset.sum_apply, Finsupp.finsetSum_apply]
    refine Finset.sum_eq_zero fun p hp => ?_
    unfold due
    rw [tallyAt_apply, if_neg]
    rintro ⟨h1, h2⟩
    exact hn p (Finset.mem_filter.mp hp).2 h1 h2
  omega

/-- The indices: the layers. -/
def L (g : GSem nD τ sig) : Finset ℕ := if g.1.2 = .tc then {0, 1, 2} else ∅
/-- The handshake's cells at 1, the receive cells by stage and phase, the others at 0. -/
def lv (g : GSem nD τ sig) (u : ℕ) : ℕ := match g.2 with
  | .reg _ => 1
  | .dma q => if kindOf q % 2 = 1 ∧ 8 ≤ q.val then 2 + 5 * stageOf (kindOf q) u + ph (stageOf (kindOf q) u) (slotOf q) else 0

/-- Cells of other threads have no index; -/
theorem L_of_ne (g : GSem nD τ sig) (h : g.1.2 ≠ .tc) : L g = ∅ := if_neg h
/-- the core's have the three layers. -/
theorem L_tc (c : Dev nD) (sm : SemLoc sig) : L ((c : Thread nD τ), sm) = {0, 1, 2} := if_pos rfl

/-- The level of a receive cell in a stage; -/
theorem lv_recv (c : Dev nD) (j : Nat) (s : Fin 31) : lv (cell c (rK j) s) (ix j) = 2 + 5 * j + ph j s := by
  show (if _ then _ else _) = _
  rw [if_pos ⟨by rw [kindOf_sem]; exact rK_odd j, sem_ge _ _⟩, kindOf_sem, slotOf_sem, stageOf_rK]
/-- a send cell's is 0, -/
theorem lv_send (c : Dev nD) (j : Nat) (s : Fin 31) (u : ℕ) : lv (cell c (sK j) s) u = 0 := by
  show (if _ then _ else _) = _
  rw [if_neg (by rw [kindOf_sem]; have := sK_even j; omega)]
/-- and so is that of the pipeline's own. -/
theorem lv_stage (c : Dev nD) (q : DmaSem sig) (h : q.val < 8) (u : ℕ) : lv ((c : Thread nD τ), .dma q) u = 0 := by
  show (if _ then _ else _) = _
  rw [if_neg (by omega)]

/-- A stage's round is the index of a layer, -/
theorem ix_mem (j : Fin 7) : ix j.val ∈ ({0, 1, 2} : Finset ℕ) := by revert j; decide
/-- and so is a due's. -/
theorem dueIx_mem (p : Due) : dueIx p ∈ ({0, 1, 2} : Finset ℕ) := by
  rcases p with i | ⟨j, s⟩
  · simp [dueIx]
  · exact ix_mem j

/-- The level of a due, -/
def dueLv : Due → Nat
  | .inl _ => 1
  | .inr (j, s) => 2 + 5 * j.val + ph j.val s
/-- is that of the cell it pays. -/
theorem lv_due (c : Dev nD) (p : Due) : lv (((xo c (dueMask p) : Dev nD) : Thread nD τ), dueSem p) (dueIx p) = dueLv p := by
  rcases p with i | ⟨j, s⟩
  · rfl
  · exact lv_recv _ _ _

omit [FloatOps F] in
/-- A device may wait on a cell below every due it has not paid. -/
theorem mayWait (c : Dev nD) (sm : SemLoc sig) (u n : ℕ) (hu : u ∈ ({0, 1, 2} : Finset ℕ))
    (h : ∀ p : Due, n ≤ pos p → lv ((c : Thread nD τ), sm) u < dueLv p) :
    (levAts L lv : sProp 𝕄) ⊢ MayWait (c : Thread nD τ) sm u (owed c n) :=
  MayOwe.of_cut (L := L) (lev := lv) (lv ((c : Thread nD τ), sm) u)
    (fun p hp => by rw [Finset.mem_singleton.mp hp, L_tc]; exact hu)
    (fun g u hg => by
      obtain ⟨p, -, rfl, rfl⟩ := owed_pos hg
      rw [L_tc]; exact dueIx_mem p)
    (fun p hp => by rw [Finset.mem_singleton.mp hp])
    (fun g u hg => by
      obtain ⟨p, hp, rfl, rfl⟩ := owed_pos hg
      rw [lv_due]; exact h p hp)

end Cert.Butterfly

end
-- ==== Proof.Steps.lean ====
/-
# The steps

A copy to a peer, the wait for a copy from a peer, the wait for a copy's own departure — each for any slot of any stage —,
and the rule of a run of slots.
-/
module

public import proofs.«01_k».proof.Proof.Cells

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- No loop of the body needs a variant. -/
abbrev 𝒱₀ : Variants := Variants.none

/-- The weakest precondition of a program on device `c`. -/
abbrev WP (c : Dev nD) {α : Type} (p : KProg F α) (Q : α → sProp 𝕄) : sProp 𝕄 :=
  wp frame (wpE (defs₀ (F := F)) 𝒱₀ (c : Thread nD τ) none) Set.univ p Q

/-- A program done. -/
theorem ret_wp (c : Dev nD) {α : Type} (a : α) (Q : α → sProp 𝕄) : Q a ⊢ WP c (pure a) Q := by
  unfold WP
  simp only [Prog.pure_eq_ret]
  rw [wp_ret]
  iintro H; imodintro; iexact H

/-- The first part of a program run: what is left is the rest, with the part's result. -/
theorem bind_wp (c : Dev nD) {α β : Type} {p : KProg F α} {k : α → KProg F β} {A : sProp 𝕄} {B : α → sProp 𝕄} {Q : β → sProp 𝕄}
    (h : A ⊢ WP c p B) : A ⊢ iprop((∀ a, B a -∗ WP c (k a) Q) -∗ WP c (p >>= k) Q) := by
  unfold WP at *
  rw [wp_bind]
  iintro HA HK
  iapply wp_wand_r
  isplitl [HA]
  · iapply h; iexact HA
  · iexact HK

/-- The last part of a program run. -/
theorem last_wp (c : Dev nD) {α : Type} {p : KProg F α} {A : sProp 𝕄} {B Q : α → sProp 𝕄}
    (h : A ⊢ WP c p B) : A ⊢ iprop((∀ a, B a -∗ Q a) -∗ WP c p Q) := by
  unfold WP at *
  iintro HA HK
  iapply wp_wand_r
  isplitl [HA]
  · iapply h; iexact HA
  · iexact HK

variable (V : Vals F)

/-! ## What every step uses -/

/-- The cells of a device: its handshake, its transfers. -/
abbrev kcell (ck : Dev nD × Option (Fin 6 × Fin 31)) : GSem nD τ sig := match ck.2 with
  | none => barCell ck.1
  | some ks => cell ck.1 ks.1 ks.2

/-- Every cell's invariant, under the names `K`, and the levels. -/
def Recs (K : Dev nD × Option (Fin 6 × Fin 31) → ℕ) : sProp 𝕄 :=
  iprop((bigSep Finset.univ fun ck => cellInv ER (Rd V) (K ck) (kcell ck)) ∗ levAts L lv)

/-- They stay. -/
instance Recs_persistent (K : Dev nD × Option (Fin 6 × Fin 31) → ℕ) : BI.Persistent (Recs V K) := by unfold Recs; infer_instance

variable (K : Dev nD × Option (Fin 6 × Fin 31) → ℕ)

omit [FloatOps F] in
/-- A cell's invariant among all. -/
theorem inv_at (ck : Dev nD × Option (Fin 6 × Fin 31)) : Recs V K ⊢ cellInv ER (Rd V) (K ck) (kcell ck) :=
  Laws.sep_elim_left.trans (bigSep_elim (Φ := fun ck => cellInv ER (Rd V) (K ck) (kcell ck)) (Finset.mem_univ ck))
omit [FloatOps F] in
/-- A wait is allowed below everything still owed. -/
theorem may_at (c : Dev nD) (sm : SemLoc sig) (u n : ℕ) (hu : u ∈ ({0, 1, 2} : Finset ℕ))
    (h : ∀ p : Due, n ≤ pos p → lv ((c : Thread nD τ), sm) u < dueLv p) : Recs V K ⊢ MayWait (c : Thread nD τ) sm u (owed c n) :=
  Laws.sep_elim_right.trans (mayWait c sm u n hu h)

/-- What device `c` owes after `n` dues, whatever it has waited on. -/
def Ow (c : Dev nD) (n : Nat) : sProp 𝕄 := iprop(∃ W : Waits sig ℕ, owes (c : Thread nD τ) (owed c n) W)

/-- The tokens a slot's copy spends. -/
def SendTok (j : Nat) (c : Dev nD) (s : Fin 31) : sProp 𝕄 :=
  iprop(dutyTok ER (cell c (sK j) s) (ix j) 0 ∗ dutyTok ER (cell (xo c (mask j s)) (rK j) s) (ix j) 0)

/-- A transfer cell at round `r`, its owner's side. -/
def At (c : Dev nD) (k : Fin 6) (r : Nat) (s : Fin 31) : sProp 𝕄 :=
  iprop(atPos ER (cell c k s) r ∅ 0 ∗ reached ER (cell c k s) r)

/-- The credit of one transfer cell's round. -/
def Cr (c : Dev nD) (k : Fin 6) (r : Nat) (s : Fin 31) : sProp 𝕄 := cred (tallyAt (cell c k s) r N)

variable {V}

/-- A slot's copy: the source, the peer's grant and the next grant go in; the departure's credit comes out. -/
theorem send_step (c : Dev nD) (j : Fin 7) (s : Fin 31) :
    iprop(Recs V K ∗ ownsTc c (src j c s) (srcShr j s) (srcVal V j c s) ∗ grant (F := F) j (xo c (mask j s)) s
        ∗ extra (F := F) j (xo c (mask j s)) s ∗ SendTok (F := F) j c s ∗ reached ER (cell c (sK j) s) (ix j) ∗ Ow (F := F) c (5 + 31 * j + s))
      ⊢ WP c (sendOp (xo c (mask j s)) (src j c s) (dst j (xo c (mask j s)) s) (sem (sK j) s) (sem (rK j) s))
          (fun _ => iprop(Cr (F := F) c (sK j) (ix j) s ∗ Ow (F := F) c (5 + 31 * j + s + 1))) := by
  unfold WP sendOp grant SendTok Ow Cr ownsTc owns
  simp only [Prog.lift]
  iintro ⟨#HI, ⟨%fs, %hfs, Hs⟩, ⟨⟨%v, ⟨%fd, %hfd, Hd⟩⟩, #Hr⟩, Hx, ⟨Ht1, Ht2⟩, #Hr1, ⟨%W, HO⟩⟩
  iapply (Rounds.wp_send_pointsTo_with 𝒱₀ ER (Rd V) (c : Thread nD τ) none (c' := (xo c (mask j s) : Thread nD τ))
    (κ₁ := K (c, some (sK j, s))) (κ₂ := K (xo c (mask j s), some (rK j, s))) (F := extra (F := F) j (xo c (mask j s)) s)
    (src := src j c s) (dst := dst j (xo c (mask j s)) s) (sS := .dma (sem (sK j) s)) (sem := .dma (sem (rK j) s))
    (O₀ := owed c (5 + 31 * j + s))
    (r₁ := ix j) (r₂ := ix j) (d₁ := 0) (d₂ := 0) (fs := fs) (fd := fd) (q := srcShr j s)
    (by rw [duties_cell V c s (ix_lt_sK j.isLt)]; exact Finset.mem_singleton_self _)
    (by rw [duties_cell V _ s (ix_lt_rK j.isLt)]; exact Finset.mem_singleton_self _)
    (ix j) (ix j) N (credit_dst j _ s) (amount_cell V c _ s _ _) (amount_cell V _ _ s _ _)
    (owed c (5 + 31 * j + s + 1))
    ((congrArg (owed c) (by simp only [pos]; omega)).trans ((owed_peel c (.inr (j, s))).trans (congrArg (fun n => owed c n + due c (.inr (j, s))) (by simp only [pos]; omega)))) (W := W)
    (by
      rw [payload_send]; unfold sendPay ownsTc owns
      iintro H; iexists fs; isplitr
      · ipureintro; exact hfs
      · iexact H)
    (by
      rw [payload_recv]; unfold recvPay ownsTc owns
      iintro ⟨H, Hx⟩
      isplitl [H]
      · iexists _; isplitr
        swap; · iexact H
        ipureintro
        rw [View.read_write_univ, hfs, xo_xo]
      · iexact Hx)) $$ [Hs Hd Hx Ht1 Ht2 HO]
  · isplitr; · iapply (inv_at V K (c, some (sK j, s))); iexact HI
    isplitr; · iapply (inv_at V K (xo c (mask j s), some (rK j, s))); iexact HI
    isplitl [Hs]; · iexact Hs
    isplitl [Hd Hx]
    · isplitl [Hd] <;> iassumption
    isplitl [HO]; · iexact HO
    isplitl [Ht1]; · iexact Ht1
    isplitr; · iexact Hr1
    isplitl [Ht2]; · iexact Ht2
    iexact Hr
  iintro ⟨Hc, HO⟩
  rw [wp_ret]; imodintro
  isplitl [Hc]; · iexact Hc
  iexists W; iexact HO

/-- A wait on one of its own transfer cells for a round's credit. -/
theorem wait_step (c : Dev nD) (k : Fin 6) (s : Fin 31) (r n : Nat) (hr : r < rounds k.val)
    (hlv : ∀ p : Due, n ≤ pos p → lv (cell c k s) r < dueLv p) (a b : Memref sig .tc .vmem S64x512 .f32) (hN : b.view.dmaCredit = N)
    (hru : r ∈ ({0, 1, 2} : Finset ℕ)) :
    iprop(Recs V K ∗ Cr (F := F) c k r s ∗ At (F := F) c k r s ∗ Ow (F := F) c n)
      ⊢ WP c (waitOp (sem k s) a b)
          (fun _ => iprop(bigSep ((Rd V).duties (cell c k s) r \ ∅) (fun d => (Rd V).payload (cell c k s) r d)
            ∗ At (F := F) c k (r + 1) s ∗ Ow (F := F) c n)) := by
  unfold WP waitOp Cr At Ow
  simp only [Prog.lift]
  iintro ⟨#HI, Hc, ⟨Hat, -⟩, ⟨%W, HO⟩⟩
  iapply (Rounds.wp_wait_rest_token 𝒱₀ ER (Rd V) (c : Thread nD τ) none (κ := K (c, some (k, s)))
      (wpE_waitDma2_eq 𝒱₀ (c : Thread nD τ) none Set.univ) (Set.mem_univ _) r (O := owed c n) (W := W) (R := r) (m := 0) (T := ∅)
      (by rw [Nat.zero_add, expect_cell V c s hr]; exact hN)) $$ [Hc HO Hat]
  · isplitr; · iapply (inv_at V K (c, some (k, s))); iexact HI
    isplitl [Hc]; · rw [hN]; iexact Hc
    isplitl [HO]; · iexact HO
    isplitr; · iapply (may_at V K c (.dma (sem k s)) r n hru hlv); iexact HI
    iexact Hat
  iintro ⟨HO, Hat, Hr, Hpay⟩
  rw [wp_ret]; imodintro
  isplitl [Hpay]; · iexact Hpay
  isplitl [Hat Hr]
  · isplitl [Hat] <;> iassumption
  iexists _; iexact HO

/-- A slot's copy arrived. -/
theorem recv_step (c : Dev nD) (j : Fin 7) (s : Fin 31) (n : Nat) (hn : ∀ s' : Fin 31, n ≤ 5 + 31 * j.val + s'.val → ph j s < ph j s')
    (hn' : 5 + 31 * j.val ≤ n) (a : Memref sig .tc .vmem S64x512 .f32) :
    iprop(Recs V K ∗ Cr (F := F) c (rK j) (ix j) s ∗ At (F := F) c (rK j) (ix j) s ∗ Ow (F := F) c n)
      ⊢ WP c (waitOp (sem (rK j) s) a (dst j c s)) (fun _ => iprop(recvPay V j c s ∗ At (F := F) c (rK j) (ix j + 1) s ∗ Ow (F := F) c n)) := by
  rw [← rest_recv V c j.isLt s]
  refine wait_step K c (rK j) s (ix j) n (ix_lt_rK j.isLt) (fun p hp => ?_) a _ (credit_dst j c s) (ix_mem j)
  rw [lv_recv]
  have h5 : ph j s < 5 := by unfold ph; split_ifs <;> exact Fin.isLt _
  rcases p with i | ⟨j', s'⟩
  · have := i.isLt; simp only [pos] at hp; omega
  · simp only [pos] at hp
    show _ < 2 + 5 * j'.val + ph j' s'
    have := s'.isLt
    rcases Nat.lt_trichotomy j.val j'.val with h | h | h
    · omega
    · obtain rfl : j = j' := Fin.ext h
      have := hn s' (by omega)
      omega
    · omega

/-- A slot's copy departed. -/
theorem done_step (c : Dev nD) (j : Fin 7) (s : Fin 31) (n : Nat) (a b : Memref sig .tc .vmem S64x512 .f32) (hN : b.view.dmaCredit = N) :
    iprop(Recs V K ∗ Cr (F := F) c (sK j) (ix j) s ∗ At (F := F) c (sK j) (ix j) s ∗ Ow (F := F) c n)
      ⊢ WP c (waitOp (sem (sK j) s) a b) (fun _ => iprop(sendPay V j c s ∗ At (F := F) c (sK j) (ix j + 1) s ∗ Ow (F := F) c n)) := by
  rw [← rest_send V c j.isLt s]
  refine wait_step K c (sK j) s (ix j) n (ix_lt_sK j.isLt) (fun p hp => ?_) a _ hN (ix_mem j)
  rw [lv_send]
  rcases p with i | ⟨j', s'⟩ <;> simp only [dueLv] <;> omega

/-! ## The steps by what a slot has before and after -/

/-- A slot before its copy: the peer's grant, the grant that travels with the copy, the tokens, its send cell. -/
def PreS (j : Nat) (c : Dev nD) (s : Fin 31) : sProp 𝕄 :=
  iprop(grant (F := F) j (xo c (mask j s)) s ∗ extra (F := F) j (xo c (mask j s)) s ∗ SendTok (F := F) j c s ∗ At (F := F) c (sK j) (ix j) s)
/-- after it: the credit of the departure, -/
def PostS (j : Nat) (c : Dev nD) (s : Fin 31) : sProp 𝕄 := iprop(Cr (F := F) c (sK j) (ix j) s ∗ At (F := F) c (sK j) (ix j) s)
/-- before its arrival: the credit, the receive cell, -/
def PreR (j : Nat) (c : Dev nD) (s : Fin 31) : sProp 𝕄 := iprop(Cr (F := F) c (rK j) (ix j) s ∗ At (F := F) c (rK j) (ix j) s)
/-- and after it: the next stage's grant, and the receive cell a round on. -/
def PostR (j : Nat) (c : Dev nD) (s : Fin 31) : sProp 𝕄 := iprop(extra (F := F) j c s ∗ At (F := F) c (rK j) (ix j + 1) s)

/-- A slot's copy starts: the source, the partner's grant and the tokens are spent for the credit of the departure. -/
theorem send_slot (c : Dev nD) (j : Fin 7) (s : Fin 31) (n : Nat) (hn : n = 5 + 31 * j + s) :
    iprop(Recs V K ∗ (sendPay V j c s ∗ PreS (F := F) j c s) ∗ Ow (F := F) c n)
      ⊢ WP c (sendOp (xo c (mask j s)) (src j c s) (dst j (xo c (mask j s)) s) (sem (sK j) s) (sem (rK j) s))
          (fun _ => iprop(PostS (F := F) j c s ∗ Ow (F := F) c (n + 1))) := by
  subst hn
  unfold PreS PostS sendPay
  iintro ⟨#HI, ⟨Hs, Hg, Hx, Ht, Hat⟩, HO⟩
  unfold At
  icases Hat with ⟨Hat, #Hr⟩
  iapply (last_wp c (send_step K c j s)) $$ [Hs Hg Hx Ht HO]
  · isplitr; · iexact HI
    isplitl [Hs]; · iexact Hs
    isplitl [Hg]; · iexact Hg
    isplitl [Hx]; · iexact Hx
    isplitl [Ht]; · iexact Ht
    isplitr; · iexact Hr
    iexact HO
  iintro %_ ⟨Hc, HO⟩
  isplitr [HO]
  · isplitl [Hc]; · iexact Hc
    isplitl [Hat]; · iexact Hat
    iexact Hr
  · iexact HO

/-- A slot's arrival: the destination with what was sent, and the next stage's grant. -/
theorem recv_slot (c : Dev nD) (j : Fin 7) (s : Fin 31) (n : Nat) (hn : ∀ s' : Fin 31, n ≤ 5 + 31 * j.val + s'.val → ph j s < ph j s')
    (hn' : 5 + 31 * j.val ≤ n) (a : Memref sig .tc .vmem S64x512 .f32) :
    iprop(Recs V K ∗ PreR (F := F) j c s ∗ Ow (F := F) c n)
      ⊢ WP c (waitOp (sem (rK j) s) a (dst j c s))
          (fun _ => iprop((ownsTc c (dst j c s) fullShare (srcVal V j (xo c (mask j s)) s) ∗ PostR (F := F) j c s) ∗ Ow (F := F) c n)) := by
  unfold PreR PostR
  iintro ⟨#HI, ⟨Hc, Hat⟩, HO⟩
  iapply (last_wp c (recv_step K c j s n hn hn' a)) $$ [Hc Hat HO]
  · isplitr; · iexact HI
    isplitl [Hc]; · iexact Hc
    isplitl [Hat] <;> iassumption
  iintro %_ ⟨Hp, Hat, HO⟩
  unfold recvPay
  icases Hp with ⟨Hp, Hx⟩
  isplitr [HO]
  · isplitl [Hp]; · iexact Hp
    isplitl [Hx] <;> iassumption
  · iexact HO

/-- A slot's departure: the share of the source comes back. -/
theorem done_slot (c : Dev nD) (j : Fin 7) (s : Fin 31) (n : Nat) (a b : Memref sig .tc .vmem S64x512 .f32) (hN : b.view.dmaCredit = N) :
    iprop(Recs V K ∗ PostS (F := F) j c s ∗ Ow (F := F) c n)
      ⊢ WP c (waitOp (sem (sK j) s) a b) (fun _ => iprop((sendPay V j c s ∗ At (F := F) c (sK j) (ix j + 1) s) ∗ Ow (F := F) c n)) := by
  unfold PostS
  iintro ⟨#HI, ⟨Hc, Hat⟩, HO⟩
  iapply (last_wp c (done_step K c j s n a b hN)) $$ [Hc Hat HO]
  · isplitr; · iexact HI
    isplitl [Hc]; · iexact Hc
    isplitl [Hat] <;> iassumption
  iintro %_ ⟨Hp, Hat, HO⟩
  isplitr [HO]
  · isplitl [Hp] <;> iassumption
  · iexact HO

/-! ## Reads and writes -/

/-- A read of a block held. -/
theorem load_blk (c : Dev nD) (mr : Memref sig .tc .vmem S2048x512 .f32) (b : Dev nD) {off : Fin 2 → Nat} (h : ∀ a, off a + S64x512.size a ≤ S2048x512.size a)
    (hoff : off = ![64 * b.val, 0]) (q : PosShare TreeShare) (v : Blk F) {β : Type} {k : Blk F → KProg F β} {Q : β → sProp 𝕄} :
    ownsTc c (blkM mr b) q v ⊢ iprop((ownsTc c (blkM mr b) q v -∗ WP c (k v) Q) -∗ WP c (loadBlk mr off h >>= k) Q) := by
  subst hoff
  unfold loadBlk WP ownsTc owns blkM
  simp only [Prog.lift, Prog.bind_op, Prog.bind_ret]
  iintro ⟨%f, %hf, H⟩ HK
  iapply (wp_load_rect 𝒱₀ (c : Thread nD τ) none Set.univ (m := mr) (r := blkR b) (Finset.Subset.refl _)) $$ H
  iintro H
  have hf' : (mr.access (blkR b) : View sig _ _ _ _).read (Elt F) f = v := hf
  rw [hf']
  iapply HK
  iexists f
  isplitr; · ipureintro; exact hf
  iexact H

/-- A write of a block held. -/
theorem store_blk (c : Dev nD) (mr : Memref sig .tc .vmem S2048x512 .f32) (b : Dev nD) {off : Fin 2 → Nat} (h : ∀ a, off a + S64x512.size a ≤ S2048x512.size a)
    (hoff : off = ![64 * b.val, 0]) (v w : Blk F) :
    ownsTc c (blkM mr b) fullShare v ⊢ WP c (storeBlk mr off h w) (fun _ => ownsTc c (blkM mr b) fullShare w) := by
  subst hoff
  unfold storeBlk WP ownsTc owns blkM
  simp only [Prog.lift]
  iintro ⟨%f, %hf, H⟩
  iapply (wp_store 𝒱₀ (c : Thread nD τ) none Set.univ (m := mr) (r := blkR b) (Mk := Finset.univ) (S := (mr.access (blkR b)).set) (View.setOn_subset_set _ _)) $$ H
  iintro H
  rw [wp_ret]; imodintro
  iexists _
  isplitr
  swap; · iexact H
  ipureintro
  exact View.read_write_univ _ _

/-- A read of a staging slot held. -/
theorem load_stage (c : Dev nD) (s : Fin 31) (v : Blk F) {β : Type} {k : Blk F → KProg F β} {Q : β → sProp 𝕄} :
    ownsTc c (stageAt stageM s) fullShare v ⊢ iprop((ownsTc c (stageAt stageM s) fullShare v -∗ WP c (k v) Q)
      -∗ WP c ((Prog.lift (.load stageM (Rect.unit (s := S1984x512) ![64 * s.val, 0] S64x512.size (stage_inb s)).toLoadRect (View.loadsAt_vmem h_S64x512)) : KProg F _) >>= k) Q) := by
  unfold WP ownsTc owns stageAt
  simp only [Prog.lift, Prog.bind_op, Prog.bind_ret]
  iintro ⟨%f, %hf, H⟩ HK
  iapply (wp_load_rect 𝒱₀ (c : Thread nD τ) none Set.univ (m := stageM) (r := Rect.unit (s := S1984x512) ![64 * s.val, 0] S64x512.size (stage_inb s)) (Finset.Subset.refl _)) $$ H
  iintro H
  have hf' : (stageM.access (Rect.unit (s := S1984x512) ![64 * s.val, 0] S64x512.size (stage_inb s)) : View sig _ _ _ _).read (Elt F) f = v := hf
  rw [hf']
  iapply HK
  iexists f
  isplitr; · ipureintro; exact hf
  iexact H

/-! ## Products over sets -/

omit [FloatOps F] in
/-- A product over two disjoint sets. -/
theorem bigSep_un {ι : Type} [DecidableEq ι] {s t : Finset ι} (h : Disjoint s t) (Φ : ι → sProp 𝕄) :
    bigSep (s ∪ t) Φ = iprop(bigSep s Φ ∗ bigSep t Φ) := bigSep_union h
omit [FloatOps F] in
/-- A product over a set, by a part and the rest. -/
theorem bigSep_split {ι : Type} [DecidableEq ι] {s t : Finset ι} (h : t ⊆ s) (Φ : ι → sProp 𝕄) :
    bigSep s Φ = iprop(bigSep t Φ ∗ bigSep (s \ t) Φ) := bigSep_sdiff_split h

/-! ## A run of slots -/

omit [FloatOps F] in
/-- A product with one more index. -/
theorem bigSep_ins {ι : Type} [DecidableEq ι] {s : Finset ι} {i : ι} (h : i ∉ s) (Φ : ι → sProp 𝕄) :
    bigSep (insert i s) Φ = iprop(Φ i ∗ bigSep s Φ) := bigSep_insert h

/-- If each slot of a run turns its own part and what is carried at its place into its result and what is carried at the
    next place, the run turns all the parts into all the results. -/
theorem loop_wp (c : Dev nD) (f : Fin 31 → KProg F PUnit) (Pre Post : Fin 31 → sProp 𝕄) (I : Nat → sProp 𝕄) (R : sProp 𝕄) [BI.Persistent R] (lo₀ n₀ : Nat)
    (h : ∀ s ∈ seg lo₀ n₀, iprop(R ∗ Pre s ∗ I s.val) ⊢ WP c (f s) (fun _ => iprop(Post s ∗ I (s.val + 1)))) :
    ∀ n lo : Nat, lo₀ ≤ lo → lo + n = lo₀ + n₀ → lo + n ≤ 31 →
      iprop(R ∗ bigSep (seg lo n) Pre ∗ I lo) ⊢ WP c (loopN f n lo) (fun _ => iprop(bigSep (seg lo n) Post ∗ I (lo + n))) := by
  intro n
  induction n with
  | zero =>
    intro lo _ _ _
    show _ ⊢ WP c (pure PUnit.unit) _
    rw [seg_zero, bigSep_empty, bigSep_empty]
    iintro ⟨-, He, HI⟩
    iapply (ret_wp c PUnit.unit (fun _ => iprop(emp ∗ I (lo + 0))))
    isplitl [He] <;> iassumption
  | succ n ih =>
    intro lo h1 h2 h3
    show _ ⊢ WP c (f (slot lo) >>= fun _ => loopN f n (lo + 1)) _
    rw [seg_succ h3, bigSep_ins (seg_notMem (by omega)), bigSep_ins (seg_notMem (by omega))]
    have hv : (slot lo).val = lo := slot_val (by omega)
    have hs := h (slot lo) (by simp only [seg, Finset.mem_filter, Finset.mem_univ, _root_.true_and, hv]; omega)
    rw [hv] at hs
    iintro ⟨#HR, ⟨Hp, Hps⟩, HI⟩
    iapply (bind_wp c hs) $$ [Hp HI]
    · isplitr; · iexact HR
      isplitl [Hp] <;> iassumption
    iintro %_ ⟨Hq, HI⟩
    iapply (last_wp c (ih (lo + 1) (by omega) (by omega) (by omega))) $$ [Hps HI]
    · isplitr; · iexact HR
      isplitl [Hps] <;> iassumption
    iintro %_ ⟨Hqs, HI⟩
    rw [show lo + (n + 1) = lo + 1 + n by omega]
    isplitl [Hq Hqs]
    · isplitl [Hq] <;> iassumption
    · iexact HI

end Cert.Butterfly

end
-- ==== Proof.Whole.lean ====
/-
# Whole buffers and their blocks

A buffer of thirty-two blocks is its blocks; what is gathered is the buffer glued from them. The reads and writes of whole
buffers.
-/
module

public import proofs.«01_k».proof.Proof.Steps

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- There is a float value, -/
instance : Nonempty (Elt F .f32) := ⟨(Scalar.ofBits .f32 0#32 : F .f32)⟩
/-- and so a block of them. -/
instance : Nonempty (Blk F) := ⟨fun _ => Classical.arbitrary _⟩

/-! ## Blocks -/

/-- Different blocks have no index in common, -/
theorem blk_disj : ∀ b b' : Dev nD, b ≠ b' → Disjoint (blkR b).set (blkR b').set := fun b b' h => by
  rw [Finset.disjoint_left]
  intro i hi hi'
  rw [Rect.mem_set_unit] at hi hi'
  have h0 := hi 0
  have h1 := hi' 0
  simp only [Matrix.cons_val_zero, show S64x512.size 0 = 64 from rfl] at h0 h1
  exact h (Fin.ext (by omega))

/-- and every index is in a block. -/
theorem blk_cover : (Finset.univ : Finset (Dev nD)).biUnion (fun b => (blkR b).set) = Finset.univ := by
  ext i
  simp only [Finset.mem_biUnion, Finset.mem_univ, _root_.true_and, iff_true]
  have h0 : (i 0).val < 2048 := (i 0).isLt
  have h1 : (i 1).val < 512 := (i 1).isLt
  refine ⟨⟨(i 0).val / 64, by show _ < 32; omega⟩, Rect.mem_set_unit.mpr fun a => ?_⟩
  fin_cases a
  · refine ⟨?_, ?_⟩ <;> simp only [Matrix.cons_val_zero, show S64x512.size 0 = 64 from rfl, Fin.zero_eta] <;> omega
  · refine ⟨Nat.zero_le _, ?_⟩
    show (i 1).val < 0 + 512
    omega

/-- Block `b` of the contents of a buffer. -/
def blkOf (X : Vec F S2048x512 .f32) (b : Dev nD) : Blk F := fun j => X ((blkR b).emb j)
/-- The contents with given blocks. -/
def glueB (Y : Dev nD → Blk F) : Vec F S2048x512 .f32 := Rect.glue blkR blk_cover Y
omit [FloatOps F] in
/-- Each block of the glued contents is the given one; -/
theorem blkOf_glueB (Y : Dev nD → Blk F) (b : Dev nD) : blkOf (glueB Y) b = Y b :=
  funext fun j => Rect.glue_emb blkR blk_cover blk_disj Y b j
omit [FloatOps F] in
/-- contents with the same blocks are the same. -/
theorem glueB_ext {X Y : Vec F S2048x512 .f32} (h : ∀ b, blkOf X b = blkOf Y b) : X = Y := by
  funext i
  obtain ⟨b, -, hb⟩ := Finset.mem_biUnion.mp (blk_cover.symm ▸ Finset.mem_univ i : i ∈ Finset.univ.biUnion fun b => (blkR b).set)
  rw [← Rect.map_emb_univ, Finset.mem_map] at hb
  obtain ⟨y, -, rfl⟩ := hb
  exact congrFun (h b) y

variable (c : Dev nD)

/-- A buffer held is its blocks, numbered from the device; -/
theorem whole_blocks (mr : Memref sig .tc .vmem S2048x512 .f32) (X : Vec F S2048x512 .f32) :
    (ownsTc c mr fullShare X : sProp 𝕄) ⊢ bigSep Finset.univ fun r : Fin 32 => ownsTc c (blkM mr (xo c r)) fullShare (blkOf X (xo c r)) :=
  (owns_rects (c : Thread nD τ) mr fullShare blkR (fun _ _ => rfl) blk_disj blk_cover X).trans
    (Entails.of_eq (bigSep_univ_equiv (rel c) fun b => (ownsTc c (blkM mr b) fullShare (blkOf X b) : sProp 𝕄)))
/-- and the blocks make the buffer. -/
theorem blocks_whole (mr : Memref sig .tc .vmem S2048x512 .f32) (Y : Dev nD → Blk F) :
    (bigSep Finset.univ fun r : Fin 32 => (ownsTc c (blkM mr (xo c r)) fullShare (Y (xo c r)) : sProp 𝕄)) ⊢ ownsTc c mr fullShare (glueB Y) := by
  refine (Entails.of_eq (bigSep_univ_equiv (rel c) fun b => (ownsTc c (blkM mr b) fullShare (Y b) : sProp 𝕄)).symm).trans ?_
  refine BI.Entails.trans (Entails.of_eq (bigSep_congr fun b _ => ?_)) (owns_of_rects (c : Thread nD τ) mr fullShare blkR (fun _ _ => rfl) blk_disj blk_cover (glueB Y))
  show _ = ownsTc c (blkM mr b) fullShare (blkOf (glueB Y) b)
  rw [blkOf_glueB]
/-- Blocks holding anything make a buffer holding something. -/
theorem blocks_any (mr : Memref sig .tc .vmem S2048x512 .f32) :
    (bigSep Finset.univ fun r : Fin 32 => iprop(∃ v : Blk F, (ownsTc c (blkM mr (xo c r)) fullShare v : sProp 𝕄)))
      ⊢ iprop(∃ X : Vec F S2048x512 .f32, ownsTc c mr fullShare X) := by
  refine (Entails.of_eq (bigSep_univ_equiv (rel c) fun b => iprop(∃ v : Blk F, (ownsTc c (blkM mr b) fullShare v : sProp 𝕄))).symm).trans ?_
  refine (bigSep_exists_pi Finset.univ fun (b : Dev nD) (v : Blk F) => (ownsTc c (blkM mr b) fullShare v : sProp 𝕄)).trans ?_
  iintro ⟨%Y, H⟩
  iexists (glueB Y)
  iapply (blocks_whole c mr Y)
  iapply (Entails.of_eq (bigSep_univ_equiv (rel c) fun b => (ownsTc c (blkM mr b) fullShare (Y b) : sProp 𝕄)))
  iexact H

/-! ## The staging buffer's slots -/

/-- A staging slot's indices. -/
abbrev slotR (s : Fin 31) : Rect S1984x512 := Rect.unit (s := S1984x512) ![64 * s.val, 0] S64x512.size (stage_inb s)

/-- Different slots have no index in common, -/
theorem slot_disj : ∀ s s' : Fin 31, s ≠ s' → Disjoint (slotR s).set (slotR s').set := fun b b' h => by
  rw [Finset.disjoint_left]
  intro i hi hi'
  rw [Rect.mem_set_unit] at hi hi'
  have h0 := hi 0
  have h1 := hi' 0
  simp only [Matrix.cons_val_zero, show S64x512.size 0 = 64 from rfl] at h0 h1
  exact h (Fin.ext (by omega))

/-- and every index is in a slot. -/
theorem slot_cover : (Finset.univ : Finset (Fin 31)).biUnion (fun s => (slotR s).set) = Finset.univ := by
  ext i
  simp only [Finset.mem_biUnion, Finset.mem_univ, _root_.true_and, iff_true]
  have h0 : (i 0).val < 1984 := (i 0).isLt
  have h1 : (i 1).val < 512 := (i 1).isLt
  refine ⟨⟨(i 0).val / 64, by omega⟩, Rect.mem_set_unit.mpr fun a => ?_⟩
  fin_cases a
  · refine ⟨?_, ?_⟩ <;> simp only [Matrix.cons_val_zero, show S64x512.size 0 = 64 from rfl, Fin.zero_eta] <;> omega
  · refine ⟨Nat.zero_le _, ?_⟩
    show (i 1).val < 0 + 512
    omega

/-- The staging buffer is its slots, -/
theorem stage_slots (X : Vec F S1984x512 .f32) :
    (ownsTc c stageM fullShare X : sProp 𝕄) ⊢ bigSep Finset.univ fun s : Fin 31 => iprop(∃ v : Blk F, ownsTc c (stageAt stageM s) fullShare v) :=
  (owns_rects (c : Thread nD τ) stageM fullShare slotR (fun _ _ => rfl) slot_disj slot_cover X).trans
    (bigSep_mono fun s _ => by
      change (ownsTc c (stageAt stageM s) fullShare (fun j => X ((slotR s).emb j)) : sProp 𝕄) ⊢ _
      iintro H; iexists (fun j => X ((slotR s).emb j)); iexact H)
/-- and back. -/
theorem slots_stage : (bigSep Finset.univ fun s : Fin 31 => iprop(∃ v : Blk F, (ownsTc c (stageAt stageM s) fullShare v : sProp 𝕄)))
      ⊢ iprop(∃ X : Vec F S1984x512 .f32, ownsTc c stageM fullShare X) := by
  refine (bigSep_exists_pi Finset.univ fun (s : Fin 31) (v : Blk F) => (ownsTc c (stageAt stageM s) fullShare v : sProp 𝕄)).trans ?_
  iintro ⟨%Y, H⟩
  iexists (Rect.glue slotR slot_cover Y)
  iapply (owns_of_rects (c : Thread nD τ) stageM fullShare slotR (fun _ _ => rfl) slot_disj slot_cover (Rect.glue slotR slot_cover Y))
  iapply (Entails.of_eq (bigSep_congr fun s _ => (congrArg (fun v => (ownsTc c (stageAt stageM s) fullShare v : sProp 𝕄))
    (funext fun j => (Rect.glue_emb slotR slot_cover slot_disj Y s j).symm))))
  iexact H

/-! ## Whole reads and writes -/

/-- A whole buffer read. -/
theorem load_whole {s : Shape} {e : EltTy} (m : Memref sig .tc .vmem s e) {off : Fin s.rank → Nat} (h0 : off = fun _ => 0)
    (inb : ∀ a, off a + s.size a ≤ s.size a) (hl : m.view.LoadsAt (Rect.unit (s := s) off s.size inb).toLoadRect) (v : s.Idx → Elt F e)
    {β : Type} {k : (s.Idx → Elt F e) → KProg F β} {Q : β → sProp 𝕄} :
    ownsTc c m fullShare v ⊢ iprop((ownsTc c m fullShare v -∗ WP c (k v) Q)
      -∗ WP c ((Prog.lift (.load m (Rect.unit (s := s) off s.size inb).toLoadRect hl) : KProg F _) >>= k) Q) := by
  subst h0
  unfold WP ownsTc owns
  simp only [Prog.lift, Prog.bind_op, Prog.bind_ret]
  iintro ⟨%f, %hf, H⟩ HK
  iapply (wp_load 𝒱₀ (c : Thread nD τ) none Set.univ (m := m) (r := (Rect.unit (s := s) (fun _ => 0) s.size inb).toLoadRect) (View.setOn_subset_set _ _)) $$ H
  iintro H
  have hf' : m.view.readAt (Elt F) (Rect.unit (s := s) (fun _ => 0) s.size inb).toLoadRect f = v := by
    rw [← hf]
    funext i
    have he : (Rect.unit (s := s) (fun _ => 0) s.size inb).emb i = i := Rect.emb_whole_apply _ i
    rw [View.readAt_rect]
    show m.view.read (Elt F) f ((Rect.unit (s := s) (fun _ => 0) s.size inb).emb i) = _
    rw [he]
  rw [hf']
  iapply HK
  iexists f
  isplitr; · ipureintro; exact hf
  iexact H

/-- A whole buffer written. -/
theorem store_whole {s : Shape} {e : EltTy} (m : Memref sig .tc .vmem s e) {off : Fin s.rank → Nat} (h0 : off = fun _ => 0)
    (inb : ∀ a, off a + s.size a ≤ s.size a) (hx) (hm) (v w : s.Idx → Elt F e)
    {β : Type} {k : PUnit → KProg F β} {Q : β → sProp 𝕄} :
    ownsTc c m fullShare v ⊢ iprop((ownsTc c m fullShare w -∗ WP c (k ⟨⟩) Q)
      -∗ WP c ((Prog.lift (.store m (Rect.unit (s := s) off s.size inb) w Finset.univ hx hm) : KProg F _) >>= k) Q) := by
  subst h0
  unfold WP ownsTc owns
  simp only [Prog.lift, Prog.bind_op, Prog.bind_ret]
  iintro ⟨%f, %hf, H⟩ HK
  iapply (wp_store 𝒱₀ (c : Thread nD τ) none Set.univ (m := m) (r := Rect.unit (s := s) (fun _ => 0) s.size inb) (Mk := Finset.univ)
    (S := m.view.set) ((View.setOn_subset_set _ _).trans (View.set_slice_subset _ _))) $$ H
  iintro H
  iapply HK
  iexists _
  isplitr
  swap; · iexact H
  ipureintro
  funext i
  have he : (Rect.unit (s := s) (fun _ => 0) s.size inb).emb i = i := Rect.emb_whole_apply _ i
  have h := congrFun (View.read_write_univ (v := m.access (Rect.unit (s := s) (fun _ => 0) s.size inb)) (Val := Elt F) f w) i
  rw [← he]
  exact h.trans (congrArg w he.symm)

end Cert.Butterfly

end
-- ==== Proof.Gather.lean ====
/-
# The gather

A device starts a gather with its own block and ends with all thirty-two. In each phase every block held is sent to one
partner and as many arrive. A copy borrows half of what the device still has of its source, and the half comes back when
the copy's departure is awaited, after the last phase.
-/
module

public import proofs.«01_k».proof.Proof.Steps

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Vals F} (K : Dev nD × Option (Fin 6 × Fin 31) → ℕ)

/-! ## The phases' slots and blocks -/

/-- Phase `p` of a gather: its first slot. -/
def agLo : Fin 5 → Nat := ![0, 1, 3, 7, 15]
/-- And how many slots it has. -/
def agLen : Fin 5 → Nat := ![1, 2, 4, 8, 16]

/-- The slots of phase `p`. -/
def agSeg (p : Fin 5) : Finset (Fin 31) := seg (agLo p) (agLen p)
/-- The blocks held before phase `p`, by relative number. -/
def held (p : Nat) : Finset (Fin 32) := Finset.univ.filter fun r => birth r ≤ p

/-- The slots of a phase have that phase; -/
theorem agPh_seg : ∀ p : Fin 5, ∀ s ∈ agSeg p, agPh s = p := by decide +kernel
/-- they send exactly the blocks held before it, -/
theorem agRel_seg : ∀ p : Fin 5, (agSeg p).image agRel = held p.val := by decide +kernel
/-- each once; -/
theorem agRel_inj : ∀ p : Fin 5, ∀ s ∈ agSeg p, ∀ s' ∈ agSeg p, agRel s = agRel s' → s = s' := by decide +kernel
/-- and what they receive is what is held after it besides, -/
theorem agGot_seg : ∀ p : Fin 5, held (p.val + 1) = held p.val ∪ (agSeg p).image agGot := by decide +kernel
/-- none of it held before, -/
theorem agGot_disj : ∀ p : Fin 5, Disjoint (held p.val) ((agSeg p).image agGot) := by decide +kernel
/-- each once, -/
theorem agGot_inj : ∀ s s' : Fin 31, agGot s = agGot s' → s = s' := by decide +kernel
/-- in the phase before its first use. -/
theorem agGot_birth : ∀ s : Fin 31, birth (agGot s) = (agPh s).val + 1 := by decide +kernel
/-- At first the device holds its own block; -/
theorem held_zero : held 0 = {0} := by decide +kernel
/-- in the end all. -/
theorem held_five : held 5 = Finset.univ := by decide +kernel
/-- The phases' slots are all the slots. -/
theorem agSegs : (Finset.univ : Finset (Fin 31)) = agSeg 0 ∪ (agSeg 1 ∪ (agSeg 2 ∪ (agSeg 3 ∪ agSeg 4))) := by decide +kernel
/-- No copy brings the own block: -/
theorem agGot_ne : ∀ s : Fin 31, agGot s ≠ 0 := by decide +kernel
/-- the copies bring exactly the others. -/
theorem agGot_image : (Finset.univ : Finset (Fin 31)).image agGot = Finset.univ.erase 0 := by decide +kernel

omit [FloatOps F] in
/-- A product over the slots, by phases. -/
theorem bigSep_phases (Φ : Fin 31 → sProp 𝕄) :
    bigSep Finset.univ Φ = iprop(bigSep (agSeg 0) Φ ∗ bigSep (agSeg 1) Φ ∗ bigSep (agSeg 2) Φ ∗ bigSep (agSeg 3) Φ ∗ bigSep (agSeg 4) Φ) := by
  rw [agSegs, bigSep_un (by decide +kernel), bigSep_un (by decide +kernel), bigSep_un (by decide +kernel), bigSep_un (by decide +kernel)]

/-! ## What the device holds -/

section Gather

variable (c : Dev nD) (g : Fin 4)

/-- The gather's stage. -/
abbrev stg (g : Fin 4) : Fin 7 := ⟨2 * g.val, by omega⟩

/-- Gathers are the even stages. -/
theorem stg_even : ¬ (stg g).val % 2 = 1 := by simp only; omega

/-- Block `r` at its share before phase `p`. -/
def gBlk (V : Vals F) (p : Nat) (r : Fin 32) : sProp 𝕄 :=
  ownsTc c (blkM (tgtM (stg g).val) (xo c r)) (shr p r) (V.Y g.val (xo c r))

omit [FloatOps F] in
/-- In a gather, where a copy comes from, -/
theorem src_eq (s : Fin 31) : src (stg g).val c s = blkM (tgtM (stg g).val) (xo c (agRel s)) := by
  unfold src; rw [if_neg (stg_even g)]
omit [FloatOps F] in
/-- where one lands, -/
theorem dst_eq (s : Fin 31) : dst (stg g).val c s = blkM (tgtM (stg g).val) (xo c (agGot s)) := by
  unfold dst; rw [if_neg (stg_even g)]
/-- its partner, -/
theorem mask_eq (s : Fin 31) : mask (stg g).val s = agMask s := by unfold mask; rw [if_neg (stg_even g)]
/-- its phase, -/
theorem ph_eq (s : Fin 31) : ph (stg g).val s = (agPh s).val := by unfold ph; rw [if_neg (stg_even g)]
omit [FloatOps F] in
/-- what it carries -/
theorem srcVal_eq (s : Fin 31) : srcVal V (stg g).val c s = V.Y g.val (xo c (agRel s)) := by
  unfold srcVal; rw [if_neg (stg_even g)]; congr 1; simp only; omega
/-- and the share it borrows. -/
theorem srcShr_eq (s : Fin 31) : srcShr (stg g).val s = (shr (agPh s).val (agRel s)).left := by
  unfold srcShr; rw [if_neg (stg_even g)]

omit [FloatOps F] in
/-- The share a copy borrows. -/
theorem sendPay_eq {p : Fin 5} {s : Fin 31} (hs : s ∈ agSeg p) : sendPay V (stg g).val c s
    = ownsTc c (blkM (tgtM (stg g).val) (xo c (agRel s))) (shr p.val (agRel s)).left (V.Y g.val (xo c (agRel s))) := by
  unfold sendPay; rw [src_eq, srcShr_eq, srcVal_eq, agPh_seg p s hs]

omit [FloatOps F] in
/-- What a copy brings is a block of the next phase. -/
theorem got_eq {p : Fin 5} {s : Fin 31} (hs : s ∈ agSeg p) :
    ownsTc c (dst (stg g).val c s) fullShare (srcVal V (stg g).val (xo c (mask (stg g).val s)) s) = gBlk c g V (p.val + 1) (agGot s) := by
  unfold gBlk
  rw [dst_eq, srcVal_eq, mask_eq, ag_rel, shr_birth (by rw [agGot_birth, agPh_seg p s hs])]

omit [FloatOps F] in
/-- The blocks held are the shares the phase's copies borrow and what is left. -/
theorem held_split (p : Fin 5) : bigSep (held p.val) (gBlk c g V p.val)
    = iprop(bigSep (agSeg p) (sendPay V (stg g).val c) ∗ bigSep (held p.val) (gBlk c g V (p.val + 1))) := by
  have him (Φ : Fin 32 → sProp 𝕄) : bigSep (held p.val) Φ = bigSep (agSeg p) fun s => Φ (agRel s) := by
    rw [← agRel_seg p, bigSep_image_of_injOn (fun s hs s' hs' h => agRel_inj p s hs s' hs' h)]
  rw [him, him, ← bigSep_sep']
  refine bigSep_congr fun s hs => ?_
  have hb : birth (agRel s) ≤ p.val := by
    have h : agRel s ∈ held p.val := by rw [← agRel_seg p]; exact Finset.mem_image_of_mem _ hs
    exact (Finset.mem_filter.mp h).2
  rw [sendPay_eq c g hs]
  unfold gBlk
  rw [shr_succ hb]
  exact BI.equiv_iff.mp ⟨(owns_halves (c : Thread nD τ) _ _ _).1, (owns_halves (c : Thread nD τ) _ _ _).2⟩

omit [FloatOps F] in
/-- The blocks of the next phase are those held and those that arrived. -/
theorem held_join (p : Fin 5) (Φ : Fin 32 → sProp 𝕄) : bigSep (held (p.val + 1)) Φ
    = iprop(bigSep (held p.val) Φ ∗ bigSep (agSeg p) fun s => Φ (agGot s)) := by
  rw [agGot_seg p, bigSep_un (agGot_disj p), bigSep_image_of_injOn (fun s _ s' _ h => agGot_inj s s' h)]

omit [FloatOps F] in
/-- With a phase's borrowed shares back, every block is at its share before that phase. -/
theorem give_back (p : Fin 5) :
    iprop(bigSep Finset.univ (gBlk c g V (p.val + 1)) ∗ bigSep (agSeg p) (sendPay V (stg g).val c)) ⊢ bigSep Finset.univ (gBlk c g V p.val) := by
  rw [bigSep_split (Finset.subset_univ (held p.val)), bigSep_split (Finset.subset_univ (held p.val)), held_split]
  have hrest : bigSep (Finset.univ \ held p.val) (gBlk c g V (p.val + 1)) = bigSep (Finset.univ \ held p.val) (gBlk c g V p.val) := by
    refine bigSep_congr fun r hr => ?_
    have hb : p.val + 1 ≤ birth r := by
      have h := (Finset.mem_sdiff.mp hr).2
      simp only [held, Finset.mem_filter, Finset.mem_univ, _root_.true_and] at h
      omega
    unfold gBlk
    rw [shr_birth hb, shr_birth (by omega)]
  rw [hrest]
  iintro ⟨⟨H1, H2⟩, H3⟩
  isplitr [H2]
  · isplitl [H3] <;> iassumption
  · iexact H2

/-! ## The program -/

/-- The program's send is the stage's copy of that slot, -/
theorem agSend_eq (s : Fin 31) : agSend (F := F) c (tgtM (stg g).val) (arr (sK (stg g).val)) (arr (rK (stg g).val)) s
    = sendOp (xo c (mask (stg g).val s)) (src (stg g).val c s) (dst (stg g).val (xo c (mask (stg g).val s)) s) (sem (sK (stg g).val) s) (sem (rK (stg g).val) s) := by
  unfold agSend sem
  rw [peerDev_eq, blockAt_eq, src_eq, dst_eq, mask_eq, ag_got]
/-- its receive the wait for the arrival, -/
theorem agRecv_eq (s : Fin 31) : agRecv (F := F) c (tgtM (stg g).val) (arr (rK (stg g).val)) s
    = waitOp (sem (rK (stg g).val) s) (dst (stg g).val c s) (dst (stg g).val c s) := by
  unfold agRecv sem
  rw [blockAt_eq, dst_eq]
/-- and its last wait that for the departure. -/
theorem agDone_eq (s : Fin 31) : agDone (F := F) c (tgtM (stg g).val) (arr (sK (stg g).val)) s
    = waitOp (sem (sK (stg g).val) s) (src (stg g).val c s) (src (stg g).val c s) := by
  unfold agDone sem
  rw [blockAt_eq, src_eq]

/-- A phase's slots are slots. -/
theorem agLo_bound : ∀ p : Fin 5, agLo p + agLen p ≤ 31 := by decide

/-- Slots after a phase's belong to later phases. -/
theorem ag_after (p : Fin 5) : ∀ s ∈ agSeg p, ∀ s' : Fin 31, agLo p + agLen p ≤ s'.val → (agPh s).val < (agPh s').val := by
  revert p; decide +kernel

/-- A phase. -/
theorem phase_wp (p : Fin 5) :
    iprop(Recs V K ∗ bigSep (held p.val) (gBlk c g V p.val) ∗ bigSep (agSeg p) (PreS (F := F) (stg g).val c) ∗ bigSep (agSeg p) (PreR (F := F) (stg g).val c)
        ∗ Ow (F := F) c (5 + 31 * (stg g).val + agLo p))
      ⊢ WP c (agPhase c (tgtM (stg g).val) (arr (sK (stg g).val)) (arr (rK (stg g).val)) (agLo p) (agLen p))
          (fun _ => iprop(bigSep (held (p.val + 1)) (gBlk c g V (p.val + 1)) ∗ bigSep (agSeg p) (PostS (F := F) (stg g).val c)
            ∗ bigSep (agSeg p) (PostR (F := F) (stg g).val c) ∗ Ow (F := F) c (5 + 31 * (stg g).val + (agLo p + agLen p)))) := by
  unfold agPhase
  have hsend := loop_wp c (agSend c (tgtM (stg g).val) (arr (sK (stg g).val)) (arr (rK (stg g).val)))
    (fun s => iprop(sendPay V (stg g).val c s ∗ PreS (F := F) (stg g).val c s)) (PostS (F := F) (stg g).val c)
    (fun n => Ow (F := F) c (5 + 31 * (stg g).val + n)) (Recs V K) (agLo p) (agLen p)
    (fun s _ => by rw [agSend_eq]; exact send_slot K c (stg g) s _ rfl)
    (agLen p) (agLo p) le_rfl rfl (agLo_bound p)
  have hrecv := loop_wp c (agRecv c (tgtM (stg g).val) (arr (rK (stg g).val)))
    (PreR (F := F) (stg g).val c) (fun s => iprop(gBlk c g V (p.val + 1) (agGot s) ∗ PostR (F := F) (stg g).val c s))
    (fun _ => Ow (F := F) c (5 + 31 * (stg g).val + (agLo p + agLen p))) (Recs V K) (agLo p) (agLen p)
    (fun s hs => by
      rw [agRecv_eq, ← got_eq c g hs]
      refine recv_slot K c (stg g) s _ (fun s' h => ?_) (by omega) _
      rw [ph_eq, ph_eq]
      exact ag_after p s hs s' (by omega))
    (agLen p) (agLo p) le_rfl rfl (agLo_bound p)
  rw [held_split, held_join p]
  iintro ⟨#HI, ⟨Hs, Hh⟩, HS, HR, HO⟩
  iapply (bind_wp c hsend) $$ [Hs HS HO]
  · isplitr; · iexact HI
    isplitr [HO]
    · rw [bigSep_sep']
      isplitl [Hs]; · iexact Hs
      iexact HS
    · iexact HO
  iintro %_ ⟨HS, HO⟩
  iapply (last_wp c hrecv) $$ [HR HO]
  · isplitr; · iexact HI
    isplitl [HR]; · iexact HR
    iexact HO
  iintro %_ ⟨HR, HO⟩
  ihave HR := (Entails.of_eq (bigSep_sep' _ _ _)) $$ HR
  icases HR with ⟨Hg, HR⟩
  isplitl [Hh Hg]
  · isplitl [Hh]; · iexact Hh
    iexact Hg
  isplitl [HS]; · iexact HS
  isplitl [HR]; · iexact HR
  iexact HO

/-- The gather. -/
theorem gather_wp :
    iprop(Recs V K ∗ gBlk c g V 0 0 ∗ bigSep Finset.univ (PreS (F := F) (stg g).val c) ∗ bigSep Finset.univ (PreR (F := F) (stg g).val c)
        ∗ Ow (F := F) c (5 + 31 * (stg g).val))
      ⊢ WP c (agAll c (tgtM (stg g).val) (arr (sK (stg g).val)) (arr (rK (stg g).val)))
          (fun _ => iprop(bigSep Finset.univ (gBlk c g V 0) ∗ bigSep Finset.univ (At (F := F) c (sK (stg g).val) (ix (stg g).val + 1))
            ∗ bigSep Finset.univ (PostR (F := F) (stg g).val c) ∗ Ow (F := F) c (5 + 31 * ((stg g).val + 1)))) := by
  unfold agAll
  have hdone := loop_wp c (agDone c (tgtM (stg g).val) (arr (sK (stg g).val)))
    (PostS (F := F) (stg g).val c) (fun s => iprop(sendPay V (stg g).val c s ∗ At (F := F) c (sK (stg g).val) (ix (stg g).val + 1) s))
    (fun _ => Ow (F := F) c (5 + 31 * (stg g).val + 31)) (Recs V K) 0 31
    (fun s _ => by rw [agDone_eq]; exact done_slot K c (stg g) s _ _ _ (credit_src _ _ _))
    31 0 le_rfl rfl le_rfl
  have hall : seg 0 31 = Finset.univ := by decide
  rw [hall] at hdone
  rw [show bigSep Finset.univ (PreS (F := F) (stg g).val c) = _ from bigSep_phases _, show bigSep Finset.univ (PreR (F := F) (stg g).val c) = _ from bigSep_phases _]
  iintro ⟨#HI, Hh, ⟨S0, S1, S2, S3, S4⟩, ⟨R0, R1, R2, R3, R4⟩, HO⟩
  ihave Hh := (Entails.of_eq (show gBlk c g V 0 0 = bigSep (held 0) (gBlk c g V 0) by rw [held_zero, bigSep_singleton])) $$ Hh
  iapply (bind_wp c (phase_wp K c g 0)) $$ [Hh S0 R0 HO]
  · isplitr; · iexact HI
    isplitl [Hh]; · iexact Hh
    isplitl [S0]; · iexact S0
    isplitl [R0]; · iexact R0
    iexact HO
  iintro %_ ⟨Hh, S0, R0, HO⟩
  iapply (bind_wp c (phase_wp K c g 1)) $$ [Hh S1 R1 HO]
  · isplitr; · iexact HI
    isplitl [Hh]; · iexact Hh
    isplitl [S1]; · iexact S1
    isplitl [R1]; · iexact R1
    iexact HO
  iintro %_ ⟨Hh, S1, R1, HO⟩
  iapply (bind_wp c (phase_wp K c g 2)) $$ [Hh S2 R2 HO]
  · isplitr; · iexact HI
    isplitl [Hh]; · iexact Hh
    isplitl [S2]; · iexact S2
    isplitl [R2]; · iexact R2
    iexact HO
  iintro %_ ⟨Hh, S2, R2, HO⟩
  iapply (bind_wp c (phase_wp K c g 3)) $$ [Hh S3 R3 HO]
  · isplitr; · iexact HI
    isplitl [Hh]; · iexact Hh
    isplitl [S3]; · iexact S3
    isplitl [R3]; · iexact R3
    iexact HO
  iintro %_ ⟨Hh, S3, R3, HO⟩
  iapply (bind_wp c (phase_wp K c g 4)) $$ [Hh S4 R4 HO]
  · isplitr; · iexact HI
    isplitl [Hh]; · iexact Hh
    isplitl [S4]; · iexact S4
    isplitl [R4]; · iexact R4
    iexact HO
  iintro %_ ⟨Hh, S4, R4, HO⟩
  iapply (last_wp c hdone) $$ [S0 S1 S2 S3 S4 HO]
  · isplitr; · iexact HI
    isplitr [HO]
    · rw [show bigSep Finset.univ (PostS (F := F) (stg g).val c) = _ from bigSep_phases _]
      isplitl [S0]; · iexact S0
      isplitl [S1]; · iexact S1
      isplitl [S2]; · iexact S2
      isplitl [S3]; · iexact S3
      iexact S4
    · iexact HO
  iintro %_ ⟨HD, HO⟩
  ihave HD := (Entails.of_eq (bigSep_sep' _ _ _)) $$ HD
  icases HD with ⟨HD, HA⟩
  ihave HD := (Entails.of_eq (bigSep_phases (sendPay V (stg g).val c))) $$ HD
  icases HD with ⟨D0, D1, D2, D3, D4⟩
  ihave Hh := (Entails.of_eq (show bigSep (held ((4 : Fin 5).val + 1)) (gBlk c g V ((4 : Fin 5).val + 1)) = bigSep Finset.univ (gBlk c g V ((4 : Fin 5).val + 1)) from
    congrArg (fun S => bigSep S (gBlk c g V ((4 : Fin 5).val + 1))) held_five)) $$ Hh
  ihave Hh := (give_back c g (V := V) 4) $$ [Hh D4]
  · isplitl [Hh]; · iexact Hh
    iexact D4
  ihave Hh := (give_back c g (V := V) 3) $$ [Hh D3]
  · isplitl [Hh]; · iexact Hh
    iexact D3
  ihave Hh := (give_back c g (V := V) 2) $$ [Hh D2]
  · isplitl [Hh]; · iexact Hh
    iexact D2
  ihave Hh := (give_back c g (V := V) 1) $$ [Hh D1]
  · isplitl [Hh]; · iexact Hh
    iexact D1
  ihave Hh := (give_back c g (V := V) 0) $$ [Hh D0]
  · isplitl [Hh]; · iexact Hh
    iexact D0
  isplitl [Hh]; · iexact Hh
  isplitl [HA]; · iexact HA
  isplitr [HO]
  · rw [show bigSep Finset.univ (PostR (F := F) (stg g).val c) = _ from bigSep_phases _]
    isplitl [R0]; · iexact R0
    isplitl [R1]; · iexact R1
    isplitl [R2]; · iexact R2
    isplitl [R3]; · iexact R3
    iexact R4
  · iexact HO

end Gather

end Cert.Butterfly

end
-- ==== Proof.Scatter.lean ====
/-
# The scatter

A device starts a scatter with a partial product for every block and ends with its own block summed over the devices. In
each round half of the blocks still held are sent to one partner, and the partner's partial sums for the other half arrive
and are added.
-/
module

public import proofs.«01_k».proof.Proof.Steps

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Vals F} (K : Dev nD × Option (Fin 6 × Fin 31) → ℕ)

/-! ## The rounds' slots and blocks -/

/-- Round `p` of a scatter: its first slot. -/
def rsLo : Fin 5 → Nat := ![0, 16, 24, 28, 30]
/-- And how many slots it has. -/
def rsLen : Fin 5 → Nat := ![16, 8, 4, 2, 1]

/-- The slots of round `p`. -/
def rsSeg (p : Fin 5) : Finset (Fin 31) := seg (rsLo p) (rsLen p)
/-- The blocks still summed at round `p`, by relative number. -/
def kept (p : Nat) : Finset (Fin 32) := Finset.univ.filter fun r => birth r + p ≤ 5

/-- The slots of a round have that round. -/
theorem rsPh_seg : ∀ p : Fin 5, ∀ s ∈ rsSeg p, rsPh s = p := by decide +kernel
/-- The blocks still summed are those a round sends and those it keeps, -/
theorem kept_split : ∀ p : Fin 5, kept p.val = (rsSeg p).image rsSent ∪ (rsSeg p).image rsRel := by decide +kernel
/-- none both; -/
theorem kept_disj : ∀ p : Fin 5, Disjoint ((rsSeg p).image rsSent) ((rsSeg p).image rsRel) := by decide +kernel
/-- and those it keeps are summed further. -/
theorem kept_next : ∀ p : Fin 5, kept (p.val + 1) = (rsSeg p).image rsRel := by decide +kernel
/-- Each block is sent once, -/
theorem rsSent_inj : ∀ s s' : Fin 31, rsSent s = rsSent s' → s = s' := by decide +kernel
/-- and kept once in a round. -/
theorem rsRel_inj : ∀ p : Fin 5, ∀ s ∈ rsSeg p, ∀ s' ∈ rsSeg p, rsRel s = rsRel s' → s = s' := by decide +kernel
/-- At first all blocks are summed, -/
theorem kept_zero : kept 0 = Finset.univ := by decide +kernel
/-- in the end the own alone. -/
theorem kept_five : kept 5 = {0} := by decide +kernel
/-- The rounds' slots are all the slots. -/
theorem rsSegs : (Finset.univ : Finset (Fin 31)) = rsSeg 0 ∪ (rsSeg 1 ∪ (rsSeg 2 ∪ (rsSeg 3 ∪ rsSeg 4))) := by decide +kernel
/-- The copies send every block but the own. -/
theorem rsSent_image : (Finset.univ : Finset (Fin 31)).image rsSent = Finset.univ.erase 0 := by decide +kernel

omit [FloatOps F] in
/-- A product over the slots, by rounds. -/
theorem bigSep_rounds (Φ : Fin 31 → sProp 𝕄) :
    bigSep Finset.univ Φ = iprop(bigSep (rsSeg 0) Φ ∗ bigSep (rsSeg 1) Φ ∗ bigSep (rsSeg 2) Φ ∗ bigSep (rsSeg 3) Φ ∗ bigSep (rsSeg 4) Φ) := by
  rw [rsSegs, bigSep_un (by decide +kernel), bigSep_un (by decide +kernel), bigSep_un (by decide +kernel), bigSep_un (by decide +kernel)]

/-- The sums follow the rounds: what a round makes of a block is the device's sum and its partner's. -/
def Vals.Sums (V : Vals F) : Prop := ∀ (l : Nat) (c : Dev nD) (s : Fin 31), V.P l ((rsPh s).val + 1) c (xo c (rsRel s))
  = addPay (V.P l (rsPh s).val c (xo c (rsRel s))) (V.P l (rsPh s).val (xo c (rsMask s)) (xo c (rsRel s)))

section Scatter

variable (c : Dev nD) (l : Fin 3)

/-- The scatter's stage. -/
abbrev sst (l : Fin 3) : Fin 7 := ⟨1 + 2 * l.val, by omega⟩

/-- Scatters are the odd stages, -/
theorem sst_odd : (sst l).val % 2 = 1 := by simp only; omega
/-- and the round of their cells is the layer. -/
theorem sst_ix : ix (sst l).val = l.val := by unfold ix; simp only; omega

/-- The running sum of block `r` at round `p`. -/
def rBlk (V : Vals F) (p : Nat) (r : Fin 32) : sProp 𝕄 := ownsTc c (blkM partM (xo c r)) fullShare (V.P l.val p c (xo c r))
/-- A staging slot, whatever it holds. -/
def Land (s : Fin 31) : sProp 𝕄 := iprop(∃ v : Blk F, ownsTc c (stageAt stageM s) fullShare v)

omit [FloatOps F] in
/-- In a scatter, where a copy comes from, -/
theorem rsrc_eq (s : Fin 31) : src (sst l).val c s = blkM partM (xo c (rsSent s)) := by
  unfold src; rw [if_pos (sst_odd l)]
omit [FloatOps F] in
/-- where it lands, -/
theorem rdst_eq (s : Fin 31) : dst (sst l).val c s = stageAt stageM s := by
  unfold dst; rw [if_pos (sst_odd l)]
/-- its partner, -/
theorem rmask_eq (s : Fin 31) : mask (sst l).val s = rsMask s := by unfold mask; rw [if_pos (sst_odd l)]
/-- and its round. -/
theorem rph_eq (s : Fin 31) : ph (sst l).val s = (rsPh s).val := by unfold ph; rw [if_pos (sst_odd l)]

omit [FloatOps F] in
/-- A copy takes the whole block it sends. -/
theorem rsend_eq {p : Fin 5} {s : Fin 31} (hs : s ∈ rsSeg p) : sendPay V (sst l).val c s = rBlk c l V p.val (rsSent s) := by
  unfold sendPay rBlk srcShr srcVal
  rw [rsrc_eq, if_pos (sst_odd l), if_pos (sst_odd l), sst_ix, rsPh_seg p s hs]

omit [FloatOps F] in
/-- What arrives is the partner's sum for the block the device keeps. -/
theorem rval_eq {p : Fin 5} {s : Fin 31} (hs : s ∈ rsSeg p) :
    srcVal V (sst l).val (xo c (mask (sst l).val s)) s = V.P l.val p.val (xo c (rsMask s)) (xo c (rsRel s)) := by
  unfold srcVal
  rw [if_pos (sst_odd l), sst_ix, rmask_eq, rs_sent, rsPh_seg p s hs]

omit [FloatOps F] in
/-- The blocks still summed are what a round's copies take and what the device keeps. -/
theorem round_split (p : Fin 5) : bigSep (kept p.val) (rBlk c l V p.val)
    = iprop(bigSep (rsSeg p) (sendPay V (sst l).val c) ∗ bigSep (rsSeg p) fun s => rBlk c l V p.val (rsRel s)) := by
  rw [kept_split p, bigSep_un (kept_disj p), bigSep_image_of_injOn (fun s _ s' _ h => rsSent_inj s s' h),
    bigSep_image_of_injOn (fun s hs s' hs' h => rsRel_inj p s hs s' hs' h)]
  rw [bigSep_congr (s := rsSeg p) (fun s hs => (rsend_eq (V := V) c l hs).symm)]

omit [FloatOps F] in
/-- What it keeps is what is summed in the next round. -/
theorem round_join (p : Fin 5) (Φ : Fin 32 → sProp 𝕄) : bigSep (kept (p.val + 1)) Φ = bigSep (rsSeg p) fun s => Φ (rsRel s) := by
  rw [kept_next p, bigSep_image_of_injOn (fun s hs s' hs' h => rsRel_inj p s hs s' hs' h)]

/-! ## The program -/

/-- The program's send is the stage's copy of that slot, -/
theorem rsSend_eq (s : Fin 31) : rsSend (F := F) c partM stageM (arr (sK (sst l).val)) (arr (rK (sst l).val)) s
    = sendOp (xo c (mask (sst l).val s)) (src (sst l).val c s) (dst (sst l).val (xo c (mask (sst l).val s)) s) (sem (sK (sst l).val) s) (sem (rK (sst l).val) s) := by
  unfold rsSend sem
  rw [peerDev_eq, blockAt_eq, rsrc_eq, rdst_eq, rmask_eq]
/-- and its last wait that for the departure. -/
theorem rsDone_eq (s : Fin 31) : rsDone (F := F) c partM stageM (arr (sK (sst l).val)) s
    = waitOp (sem (sK (sst l).val) s) (stageAt stageM s) (src (sst l).val c s) := by
  unfold rsDone sem
  rw [blockAt_eq, rsrc_eq]

/-- A round's slots are slots. -/
theorem rsLo_bound : ∀ p : Fin 5, rsLo p + rsLen p ≤ 31 := by decide

/-- Slots after a round's belong to later rounds. -/
theorem rs_after (p : Fin 5) : ∀ s ∈ rsSeg p, ∀ s' : Fin 31, rsLo p + rsLen p ≤ s'.val → (rsPh s).val < (rsPh s').val := by
  revert p; decide +kernel

/-- A slot's arrival, added to its block. -/
theorem rsRecv_wp (hV : V.Sums) {p : Fin 5} {s : Fin 31} (hs : s ∈ rsSeg p) :
    iprop(Recs V K ∗ (PreR (F := F) (sst l).val c s ∗ rBlk c l V p.val (rsRel s)) ∗ Ow (F := F) c (5 + 31 * (sst l).val + (rsLo p + rsLen p)))
      ⊢ WP c (rsRecv c partM stageM (arr (rK (sst l).val)) s)
          (fun _ => iprop((rBlk c l V (p.val + 1) (rsRel s) ∗ (Land c s ∗ PostR (F := F) (sst l).val c s))
            ∗ Ow (F := F) c (5 + 31 * (sst l).val + (rsLo p + rsLen p)))) := by
  have hw := recv_slot (V := V) K c (sst l) s (5 + 31 * (sst l).val + (rsLo p + rsLen p)) (fun s' h => by
    rw [rph_eq, rph_eq]
    exact rs_after p s hs s' (by omega)) (by omega) (blkM partM (xo c (rsSent s)))
  rw [rdst_eq, rval_eq c l hs] at hw
  have hsum := hV l.val c s
  rw [rsPh_seg p s hs] at hsum
  unfold rsRecv rBlk
  rw [blockAt_eq]
  iintro ⟨#HI, ⟨HR, HB⟩, HO⟩
  iapply (bind_wp c hw) $$ [HR HO]
  · isplitr; · iexact HI
    isplitl [HR]; · iexact HR
    iexact HO
  iintro %_ ⟨⟨HL, HR⟩, HO⟩
  iapply (load_blk c partM (xo c (rsRel s)) _ (off2_eq c (rsRel s)) fullShare _) $$ HB
  iintro HB
  iapply (load_stage c s _) $$ HL
  iintro HL
  iapply (load_blk c partM (xo c (rsRel s)) _ (off2_eq c (rsRel s)) fullShare _) $$ HB
  iintro HB
  iapply (last_wp c (store_blk c partM (xo c (rsRel s)) _ (off2_eq c (rsRel s)) _ _)) $$ HB
  iintro %_ HB
  rw [hsum]
  isplitr [HO]
  · isplitl [HB]; · iexact HB
    isplitl [HL]
    · unfold Land; iexists _; iexact HL
    · iexact HR
  · iexact HO

/-- A round. -/
theorem round_wp (hV : V.Sums) (p : Fin 5) :
    iprop(Recs V K ∗ bigSep (kept p.val) (rBlk c l V p.val) ∗ bigSep (rsSeg p) (PreS (F := F) (sst l).val c) ∗ bigSep (rsSeg p) (PreR (F := F) (sst l).val c)
        ∗ Ow (F := F) c (5 + 31 * (sst l).val + rsLo p))
      ⊢ WP c (rsRound c partM stageM (arr (sK (sst l).val)) (arr (rK (sst l).val)) (rsLo p) (rsLen p))
          (fun _ => iprop(bigSep (kept (p.val + 1)) (rBlk c l V (p.val + 1)) ∗ bigSep (rsSeg p) (PostS (F := F) (sst l).val c)
            ∗ bigSep (rsSeg p) (fun s => iprop(Land c s ∗ PostR (F := F) (sst l).val c s)) ∗ Ow (F := F) c (5 + 31 * (sst l).val + (rsLo p + rsLen p)))) := by
  unfold rsRound
  have hsend := loop_wp c (rsSend c partM stageM (arr (sK (sst l).val)) (arr (rK (sst l).val)))
    (fun s => iprop(sendPay V (sst l).val c s ∗ PreS (F := F) (sst l).val c s)) (PostS (F := F) (sst l).val c)
    (fun n => Ow (F := F) c (5 + 31 * (sst l).val + n)) (Recs V K) (rsLo p) (rsLen p)
    (fun s _ => by rw [rsSend_eq]; exact send_slot K c (sst l) s _ rfl)
    (rsLen p) (rsLo p) le_rfl rfl (rsLo_bound p)
  have hrecv := loop_wp c (rsRecv c partM stageM (arr (rK (sst l).val)))
    (fun s => iprop(PreR (F := F) (sst l).val c s ∗ rBlk c l V p.val (rsRel s)))
    (fun s => iprop(rBlk c l V (p.val + 1) (rsRel s) ∗ (Land c s ∗ PostR (F := F) (sst l).val c s)))
    (fun _ => Ow (F := F) c (5 + 31 * (sst l).val + (rsLo p + rsLen p))) (Recs V K) (rsLo p) (rsLen p)
    (fun s hs => rsRecv_wp K c l hV hs)
    (rsLen p) (rsLo p) le_rfl rfl (rsLo_bound p)
  rw [round_split, round_join p]
  iintro ⟨#HI, ⟨Hs, Hh⟩, HS, HR, HO⟩
  iapply (bind_wp c hsend) $$ [Hs HS HO]
  · isplitr; · iexact HI
    isplitr [HO]
    · rw [bigSep_sep']
      isplitl [Hs]; · iexact Hs
      iexact HS
    · iexact HO
  iintro %_ ⟨HS, HO⟩
  iapply (last_wp c hrecv) $$ [HR Hh HO]
  · isplitr; · iexact HI
    isplitr [HO]
    · rw [bigSep_sep']
      isplitl [HR]; · iexact HR
      iexact Hh
    · iexact HO
  iintro %_ ⟨HR, HO⟩
  ihave HR := (Entails.of_eq (bigSep_sep' _ _ _)) $$ HR
  icases HR with ⟨Hg, HR⟩
  isplitl [Hg]; · iexact Hg
  isplitl [HS]; · iexact HS
  isplitl [HR]; · iexact HR
  iexact HO

/-- The scatter. -/
theorem scatter_wp (hV : V.Sums) :
    iprop(Recs V K ∗ bigSep Finset.univ (rBlk c l V 0) ∗ bigSep Finset.univ (PreS (F := F) (sst l).val c) ∗ bigSep Finset.univ (PreR (F := F) (sst l).val c)
        ∗ Ow (F := F) c (5 + 31 * (sst l).val))
      ⊢ WP c (rsAll c partM stageM (arr (sK (sst l).val)) (arr (rK (sst l).val)))
          (fun _ => iprop(rBlk c l V 5 0 ∗ bigSep Finset.univ (fun s => iprop(sendPay V (sst l).val c s ∗ At (F := F) c (sK (sst l).val) (ix (sst l).val + 1) s))
            ∗ bigSep Finset.univ (fun s => iprop(Land c s ∗ PostR (F := F) (sst l).val c s)) ∗ Ow (F := F) c (5 + 31 * ((sst l).val + 1)))) := by
  unfold rsAll
  have hdone := loop_wp c (rsDone c partM stageM (arr (sK (sst l).val)))
    (PostS (F := F) (sst l).val c) (fun s => iprop(sendPay V (sst l).val c s ∗ At (F := F) c (sK (sst l).val) (ix (sst l).val + 1) s))
    (fun _ => Ow (F := F) c (5 + 31 * (sst l).val + 31)) (Recs V K) 0 31
    (fun s _ => by rw [rsDone_eq]; exact done_slot K c (sst l) s _ _ _ (credit_src _ _ _))
    31 0 le_rfl rfl le_rfl
  have hall : seg 0 31 = Finset.univ := by decide
  rw [hall] at hdone
  rw [show bigSep Finset.univ (PreS (F := F) (sst l).val c) = _ from bigSep_rounds _, show bigSep Finset.univ (PreR (F := F) (sst l).val c) = _ from bigSep_rounds _,
    show bigSep Finset.univ (rBlk c l V 0) = bigSep (kept (0 : Fin 5).val) (rBlk c l V (0 : Fin 5).val) from congrArg (fun S => bigSep S (rBlk c l V 0)) kept_zero.symm]
  iintro ⟨#HI, Hh, ⟨S0, S1, S2, S3, S4⟩, ⟨R0, R1, R2, R3, R4⟩, HO⟩
  iapply (bind_wp c (round_wp K c l hV 0)) $$ [Hh S0 R0 HO]
  · isplitr; · iexact HI
    isplitl [Hh]; · iexact Hh
    isplitl [S0]; · iexact S0
    isplitl [R0]; · iexact R0
    iexact HO
  iintro %_ ⟨Hh, S0, R0, HO⟩
  iapply (bind_wp c (round_wp K c l hV 1)) $$ [Hh S1 R1 HO]
  · isplitr; · iexact HI
    isplitl [Hh]; · iexact Hh
    isplitl [S1]; · iexact S1
    isplitl [R1]; · iexact R1
    iexact HO
  iintro %_ ⟨Hh, S1, R1, HO⟩
  iapply (bind_wp c (round_wp K c l hV 2)) $$ [Hh S2 R2 HO]
  · isplitr; · iexact HI
    isplitl [Hh]; · iexact Hh
    isplitl [S2]; · iexact S2
    isplitl [R2]; · iexact R2
    iexact HO
  iintro %_ ⟨Hh, S2, R2, HO⟩
  iapply (bind_wp c (round_wp K c l hV 3)) $$ [Hh S3 R3 HO]
  · isplitr; · iexact HI
    isplitl [Hh]; · iexact Hh
    isplitl [S3]; · iexact S3
    isplitl [R3]; · iexact R3
    iexact HO
  iintro %_ ⟨Hh, S3, R3, HO⟩
  iapply (bind_wp c (round_wp K c l hV 4)) $$ [Hh S4 R4 HO]
  · isplitr; · iexact HI
    isplitl [Hh]; · iexact Hh
    isplitl [S4]; · iexact S4
    isplitl [R4]; · iexact R4
    iexact HO
  iintro %_ ⟨Hh, S4, R4, HO⟩
  iapply (last_wp c hdone) $$ [S0 S1 S2 S3 S4 HO]
  · isplitr; · iexact HI
    isplitr [HO]
    · rw [show bigSep Finset.univ (PostS (F := F) (sst l).val c) = _ from bigSep_rounds _]
      isplitl [S0]; · iexact S0
      isplitl [S1]; · iexact S1
      isplitl [S2]; · iexact S2
      isplitl [S3]; · iexact S3
      iexact S4
    · iexact HO
  iintro %_ ⟨HD, HO⟩
  isplitl [Hh]
  · iapply (Entails.of_eq (show bigSep (kept ((4 : Fin 5).val + 1)) (rBlk c l V ((4 : Fin 5).val + 1)) = rBlk c l V 5 0 from
      (congrArg (fun S => bigSep S (rBlk c l V 5)) kept_five).trans bigSep_singleton))
    iexact Hh
  isplitl [HD]; · iexact HD
  isplitr [HO]
  · rw [show bigSep Finset.univ (fun s => iprop(Land (F := F) c s ∗ PostR (F := F) (sst l).val c s)) = _ from bigSep_rounds _]
    isplitl [R0]; · iexact R0
    isplitl [R1]; · iexact R1
    isplitl [R2]; · iexact R2
    isplitl [R3]; · iexact R3
    iexact R4
  · iexact HO

end Scatter

end Cert.Butterfly

end
-- ==== Proof.Layer.lean ====
/-
# A layer

The grants in bulk, and a layer: the product, the scatter, the own block handed over, the gather.
-/
module

public import proofs.«01_k».proof.Proof.Whole
public import proofs.«01_k».proof.Proof.Gather
public import proofs.«01_k».proof.Proof.Scatter

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Vals F} (K : Dev nD × Option (Fin 6 × Fin 31) → ℕ) (c : Dev nD)

omit [FloatOps F] in
/-- A product, factor by factor. -/
theorem bigSep_imp {ι : Type} {S : Finset ι} {Φ Ψ : ι → sProp 𝕄} (h : ∀ i ∈ S, Φ i ⊢ Ψ i) : bigSep S Φ ⊢ bigSep S Ψ := bigSep_mono h

/-! ## Grants in bulk -/

/-- The grants of a stage a device gives, -/
def Mine (j : Nat) : sProp 𝕄 := bigSep Finset.univ fun s : Fin 31 => grant (F := F) j c s
/-- the grants of a stage its partners gave it, -/
def Peer (j : Nat) : sProp 𝕄 := bigSep Finset.univ fun s : Fin 31 => grant (F := F) j (xo c (mask j s)) s
/-- the grants that leave with a stage's copies, -/
def ExtraOut (j : Nat) : sProp 𝕄 := bigSep Finset.univ fun s : Fin 31 => extra (F := F) j (xo c (mask j s)) s
/-- and those that arrive with them. -/
def ExtraIn (j : Nat) : sProp 𝕄 := bigSep Finset.univ fun s : Fin 31 => extra (F := F) j c s

omit [FloatOps F] in
/-- The grants that leave with a stage's copies are the device's own of the next stage; -/
theorem extraOut_eq {j : Nat} (h : ¬ (j = 0 ∨ j = 6)) : ExtraOut (F := F) c j = Mine (F := F) c (j + 1) := by
  unfold ExtraOut Mine
  rw [bigSep_univ_equiv (nextEquiv j) fun s => grant (F := F) (j + 1) c s]
  refine bigSep_congr fun s _ => ?_
  unfold extra
  rw [if_neg h, xo_xo, nextEquiv_apply]
omit [FloatOps F] in
/-- those that arrive are its partners'. -/
theorem extraIn_eq {j : Nat} (h : ¬ (j = 0 ∨ j = 6)) : ExtraIn (F := F) c j = Peer (F := F) c (j + 1) := by
  unfold ExtraIn Peer
  rw [bigSep_univ_equiv (nextEquiv j) fun s => grant (F := F) (j + 1) (xo c (mask (j + 1) s)) s]
  refine bigSep_congr fun s _ => ?_
  unfold extra
  rw [if_neg h, nextEquiv_apply, mask_next]
omit [FloatOps F] in
/-- The first and the last stage's copies carry none, -/
theorem extra_emp {j : Nat} (h : j = 0 ∨ j = 6) (c : Dev nD) (s : Fin 31) : extra (F := F) j c s = iprop(emp) := by
  unfold extra; rw [if_pos h]
omit [FloatOps F] in
/-- none at all. -/
theorem extraOut_emp {j : Nat} (h : j = 0 ∨ j = 6) : ExtraOut (F := F) c j = iprop(emp) := by
  unfold ExtraOut
  rw [bigSep_congr fun s _ => extra_emp h _ s]
  exact bigSep_emp_const _

omit [FloatOps F] in
/-- A stage's slots before their copies. -/
theorem preS_eq (j : Nat) : bigSep Finset.univ (PreS (F := F) j c)
    = iprop(Peer (F := F) c j ∗ ExtraOut (F := F) c j ∗ bigSep Finset.univ (SendTok (F := F) j c) ∗ bigSep Finset.univ (At (F := F) c (sK j) (ix j))) := by
  unfold PreS Peer ExtraOut
  rw [bigSep_sep', bigSep_sep', bigSep_sep']
omit [FloatOps F] in
/-- And before their arrivals. -/
theorem preR_eq (j : Nat) : bigSep Finset.univ (PreR (F := F) j c)
    = iprop(bigSep Finset.univ (Cr (F := F) c (rK j) (ix j)) ∗ bigSep Finset.univ (At (F := F) c (rK j) (ix j))) := by
  unfold PreR
  rw [bigSep_sep']
omit [FloatOps F] in
/-- A stage's slots after their arrivals. -/
theorem postR_eq (j : Nat) : bigSep Finset.univ (PostR (F := F) j c)
    = iprop(ExtraIn (F := F) c j ∗ bigSep Finset.univ (At (F := F) c (rK j) (ix j + 1))) := by
  unfold PostR ExtraIn
  rw [bigSep_sep']

omit [FloatOps F] in
/-- Memory of a stage's destinations, with the receive cells at that stage's round, makes the stage's grants. -/
theorem mine_intro (j : Nat) :
    iprop((bigSep Finset.univ fun s : Fin 31 => iprop(∃ v : Blk F, (ownsTc c (dst j c s) fullShare v : sProp 𝕄))) ∗ bigSep Finset.univ (At (F := F) c (rK j) (ix j)))
      ⊢ iprop(Mine (F := F) c j ∗ bigSep Finset.univ (At (F := F) c (rK j) (ix j))) := by
  unfold Mine
  rw [← bigSep_sep', ← bigSep_sep']
  refine bigSep_mono fun s _ => ?_
  unfold grant At
  change (_ : sProp 𝕄) ⊢ _
  iintro ⟨Hm, Ha, #Hr⟩
  isplitl [Hm]
  · isplitl [Hm]; · iexact Hm
    iexact Hr
  · isplitl [Ha]; · iexact Ha
    iexact Hr

/-! ## Own block and the rest -/

omit [FloatOps F] in
/-- A product over the relative numbers: the own block's factor and the others'. -/
theorem bigSep_own (Φ : Fin 32 → sProp 𝕄) (f : Fin 31 → Fin 32) (hi : ∀ s s', f s = f s' → s = s') (him : (Finset.univ : Finset (Fin 31)).image f = Finset.univ.erase 0) :
    bigSep Finset.univ Φ = iprop(Φ 0 ∗ bigSep Finset.univ fun s => Φ (f s)) := by
  rw [← Finset.insert_erase (Finset.mem_univ (0 : Fin 32)), bigSep_ins (by simp), ← him, bigSep_image_of_injOn (fun s _ s' _ h => hi s s' h)]

/-- A buffer as its own block and the blocks a gather brings. -/
theorem whole_own (mr : Memref sig .tc .vmem S2048x512 .f32) (X : Vec F S2048x512 .f32) :
    (ownsTc c mr fullShare X : sProp 𝕄) ⊢ iprop(ownsTc c (blkM mr (xo c 0)) fullShare (blkOf X (xo c 0))
      ∗ bigSep Finset.univ fun s : Fin 31 => iprop(∃ v : Blk F, ownsTc c (blkM mr (xo c (agGot s))) fullShare v)) := by
  refine (whole_blocks c mr X).trans ?_
  rw [bigSep_own _ agGot agGot_inj agGot_image]
  iintro ⟨H0, H⟩
  isplitl [H0]; · iexact H0
  iapply (bigSep_imp (S := Finset.univ) (Φ := fun s : Fin 31 => (ownsTc c (blkM mr (xo c (agGot s))) fullShare (blkOf X (xo c (agGot s))) : sProp 𝕄)) (Ψ := fun s : Fin 31 => iprop(∃ v : Blk F, (ownsTc c (blkM mr (xo c (agGot s))) fullShare v : sProp 𝕄))) fun s _ => by
    iintro H; iexists _; iexact H)
  iexact H

/-- The sums' buffer after a scatter: the own block and what the copies gave back. -/
theorem part_back (l : Fin 3) :
    iprop(rBlk c l V 5 0 ∗ bigSep Finset.univ (sendPay V (sst l).val c)) ⊢ iprop(∃ X : Vec F S2048x512 .f32, ownsTc c partM fullShare X) := by
  refine BI.Entails.trans ?_ (blocks_any c partM)
  rw [bigSep_own _ rsSent rsSent_inj rsSent_image]
  unfold rBlk
  change (_ : sProp 𝕄) ⊢ _
  iintro ⟨H0, H⟩
  isplitl [H0]
  · iexists _; iexact H0
  iapply (bigSep_imp (S := Finset.univ) (Φ := sendPay V (sst l).val c) (Ψ := fun s : Fin 31 => iprop(∃ v : Blk F, (ownsTc c (blkM partM (xo c (rsSent s))) fullShare v : sProp 𝕄))) fun s _ => by
    unfold sendPay srcShr
    rw [rsrc_eq, if_pos (sst_odd l)]
    iintro H; iexists _; iexact H)
  iexact H

/-! ## A layer -/

/-- The gather of a layer. -/
abbrev nx (l : Fin 3) : Fin 4 := ⟨l.val + 1, by omega⟩

/-- The offset of the device's own block. -/
theorem off1_eq : k0_off1 c = ![64 * (xo c 0).val, 0] := by rw [xo_zero]; exact k0_off1_eq c

/-- The zero offset. -/
theorem zero2 : (![0, 0] : Fin 2 → Nat) = fun _ => 0 := by decide
/-- A layer's gather is the stage after its scatter. -/
theorem stg_nx (l : Fin 3) : (stg (nx l)).val = (sst l).val + 1 := by simp only; omega

/-- A scatter's send array, -/
theorem sK_sst : ∀ l : Fin 3, sK (sst l).val = 2 := by decide
/-- and receive array; -/
theorem rK_sst : ∀ l : Fin 3, rK (sst l).val = 3 := by decide
/-- its gather's send array, -/
theorem sK_nx : ∀ l : Fin 3, sK (stg (nx l)).val = 4 := by decide
/-- receive array -/
theorem rK_nx : ∀ l : Fin 3, rK (stg (nx l)).val = 5 := by decide
/-- and round. -/
theorem ix_nx : ∀ l : Fin 3, ix (stg (nx l)).val = l.val := by decide
/-- A scatter's copies carry grants. -/
theorem sst_mid : ∀ l : Fin 3, ¬ ((sst l).val = 0 ∨ (sst l).val = 6) := by decide

/-- What a device brings to a layer: its parts of the two stages, and the cells at that layer's round. -/
def LayerIn (l : Fin 3) : sProp 𝕄 :=
  iprop(bigSep Finset.univ (SendTok (F := F) (sst l).val c) ∗ bigSep Finset.univ (SendTok (F := F) (stg (nx l)).val c)
    ∗ bigSep Finset.univ (Cr (F := F) c (rK (sst l).val) (ix (sst l).val)) ∗ bigSep Finset.univ (Cr (F := F) c (rK (stg (nx l)).val) (ix (stg (nx l)).val)))
/-- The cells of the layers' arrays at round `r`. -/
def LayerAt (r : Nat) : sProp 𝕄 :=
  iprop(bigSep Finset.univ (At (F := F) c 2 r) ∗ bigSep Finset.univ (At (F := F) c 3 r) ∗ bigSep Finset.univ (At (F := F) c 4 r) ∗ bigSep Finset.univ (At (F := F) c 5 r))

/-- A layer: from the gathered blocks, the weights and the partners' grants, the next gathered blocks, with the cells a round on. -/
theorem layer_wp (l : Fin 3) (hV : V.Sums) (wi : Memref sig .tc .vmem S512x1024 .f32) (wo : Memref sig .tc .vmem S1024x512 .f32)
    (vi : Vec F S512x1024 .f32) (vo : Vec F S1024x512 .f32) (hand : Vec F S64x512 .f32 → FVec F S64x512 .f32)
    (hP : ∀ b, V.P l.val 0 c b = blkOf (mlp (glueB (V.Y l.val)) vi vo) b) (hY : hand (V.P l.val 5 c c) = V.Y (l.val + 1) c)
    (G Fr Lv : sProp 𝕄)
    (hM : iprop(ownsTc c xfM fullShare (glueB (V.Y l.val)) ∗ G) ⊢ iprop((∃ X : Vec F S2048x512 .f32, ownsTc c (tgtM (stg (nx l)).val) fullShare X) ∗ Fr))
    (hX : iprop(bigSep Finset.univ (Land (F := F) c) ∗ bigSep Finset.univ (At (F := F) c 3 (l.val + 1)))
      ⊢ iprop(ExtraOut (F := F) c (stg (nx l)).val ∗ bigSep Finset.univ (At (F := F) c 3 (l.val + 1)) ∗ Lv)) :
    iprop(Recs V K ∗ ownsTc c xfM fullShare (glueB (V.Y l.val)) ∗ G ∗ (∃ X : Vec F S2048x512 .f32, ownsTc c partM fullShare X)
        ∗ ownsTc c wi fullShare vi ∗ ownsTc c wo fullShare vo ∗ Peer (F := F) c (sst l).val ∗ LayerIn (F := F) c l ∗ LayerAt (F := F) c l.val
        ∗ Ow (F := F) c (5 + 31 * (sst l).val))
      ⊢ WP c (layer c xfM partM stageM wi wo (tgtM (stg (nx l)).val) cc0_scratch5 cc0_scratch6 cc0_scratch7 cc0_scratch8 hand)
          (fun _ => iprop(ownsTc c (tgtM (stg (nx l)).val) fullShare (glueB (V.Y (l.val + 1))) ∗ Fr ∗ (∃ X : Vec F S2048x512 .f32, ownsTc c partM fullShare X)
            ∗ ownsTc c wi fullShare vi ∗ ownsTc c wo fullShare vo ∗ ExtraIn (F := F) c (stg (nx l)).val ∗ Lv ∗ LayerAt (F := F) c (l.val + 1)
            ∗ Ow (F := F) c (5 + 31 * ((stg (nx l)).val + 1)))) := by
  have hs2 : sK (sst l).val = 2 := sK_sst l
  have hr3 : rK (sst l).val = 3 := rK_sst l
  have hs4 : sK (stg (nx l)).val = 4 := sK_nx l
  have hr5 : rK (stg (nx l)).val = 5 := rK_nx l
  have hi1 : ix (sst l).val = l.val := sst_ix l
  have hi2 : ix (stg (nx l)).val = l.val := ix_nx l
  have hsc := scatter_wp (V := V) K c l hV
  have hga := gather_wp (V := V) K c (nx l)
  rw [preS_eq, preR_eq, hs2, hr3, hi1] at hsc
  rw [preS_eq, preR_eq, postR_eq, hs4, hr5, hi2] at hga
  have hout : ExtraOut (F := F) c (sst l).val = Mine (F := F) c (stg (nx l)).val := by
    rw [extraOut_eq c (sst_mid l), stg_nx]
  have hin : ExtraIn (F := F) c (sst l).val = Peer (F := F) c (stg (nx l)).val := by
    rw [extraIn_eq c (sst_mid l), stg_nx]
  have hmine := mine_intro (F := F) c (stg (nx l)).val
  rw [hr5, hi2] at hmine
  have hpost := postR_eq (F := F) c (sst l).val
  rw [hr3, hi1, hin] at hpost
  unfold layer loadAll LayerIn LayerAt
  rw [hr3, hr5, hi1, hi2]
  iintro ⟨#HI, Hx, HG, ⟨%X, Hp⟩, Hwi, Hwo, HP, ⟨T1, T2, C1, C2⟩, ⟨A2, A3, A4, A5⟩, HO⟩
  iapply (load_whole c xfM zero2 _ _ _) $$ Hx
  iintro Hx
  iapply (load_whole c wi zero2 _ _ _) $$ Hwi
  iintro Hwi
  iapply (load_whole c wo zero2 _ _ _) $$ Hwo
  iintro Hwo
  iapply (load_whole c partM zero2 _ _ _) $$ Hp
  iintro Hp
  iapply (store_whole c partM zero2 _ _ _ _ _) $$ Hp
  iintro Hp
  ihave Hp := (whole_blocks c partM _) $$ Hp
  ihave Hp := (Entails.of_eq (bigSep_congr (s := Finset.univ) fun r _ => show
    (ownsTc c (blkM partM (xo c r)) fullShare (blkOf (mlp (glueB (V.Y l.val)) vi vo) (xo c r)) : sProp 𝕄) = rBlk c l V 0 r by
      unfold rBlk; rw [hP])) $$ Hp
  ihave Hx := hM $$ [Hx HG]
  · isplitl [Hx]; · iexact Hx
    iexact HG
  icases Hx with ⟨⟨%Xt, Ht⟩, HF⟩
  ihave Ht := (whole_own c (tgtM (stg (nx l)).val) Xt) $$ Ht
  icases Ht with ⟨Ht0, Ht⟩
  ihave Ht := (Entails.of_eq (bigSep_congr (s := Finset.univ) fun s _ => show
    iprop(∃ v : Blk F, (ownsTc c (blkM (tgtM (stg (nx l)).val) (xo c (agGot s))) fullShare v : sProp 𝕄)) = iprop(∃ v : Blk F, ownsTc c (dst (stg (nx l)).val c s) fullShare v) by
      rw [dst_eq])) $$ Ht
  ihave Ht := hmine $$ [Ht A5]
  · isplitl [Ht]; · iexact Ht
    iexact A5
  icases Ht with ⟨HM, A5⟩
  iapply (bind_wp c hsc) $$ [Hp HP HM T1 A2 C1 A3 HO]
  · isplitr; · iexact HI
    isplitl [Hp]; · iexact Hp
    isplitl [HP HM T1 A2]
    · isplitl [HP]; · iexact HP
      isplitl [HM]
      · iapply (Entails.of_eq hout.symm); iexact HM
      isplitl [T1]; · iexact T1
      iexact A2
    isplitl [C1 A3]
    · isplitl [C1]; · iexact C1
      iexact A3
    iexact HO
  iintro %_ ⟨HB, HD, HL, HO⟩
  ihave HD := (Entails.of_eq (bigSep_sep' _ _ _)) $$ HD
  icases HD with ⟨HD, A2⟩
  ihave HL := (Entails.of_eq (bigSep_sep' _ _ _)) $$ HL
  icases HL with ⟨HL, HR⟩
  ihave HR := (Entails.of_eq hpost) $$ HR
  icases HR with ⟨HP, A3⟩
  ihave HL := hX $$ [HL A3]
  · isplitl [HL]; · iexact HL
    iexact A3
  icases HL with ⟨HE, A3, HLv⟩
  unfold rBlk
  iapply (load_blk c partM (xo c 0) _ (off1_eq c) fullShare _) $$ HB
  iintro HB
  iapply (load_blk c (tgtM (stg (nx l)).val) (xo c 0) _ (off1_eq c) fullShare _) $$ Ht0
  iintro Ht0
  iapply (bind_wp c (store_blk c (tgtM (stg (nx l)).val) (xo c 0) _ (off1_eq c) _ _)) $$ Ht0
  iintro %_ Ht0
  iapply (last_wp c hga) $$ [Ht0 HP HE T2 A4 C2 A5 HO]
  · isplitr; · iexact HI
    isplitl [Ht0]
    · iapply (Entails.of_eq (show (ownsTc c (blkM (tgtM (stg (nx l)).val) (xo c 0)) fullShare (hand (V.P l.val 5 c (xo c 0))) : sProp 𝕄) = gBlk c (nx l) V 0 0 by
        unfold gBlk; rw [xo_zero, hY, shr_birth (by decide)]))
      iexact Ht0
    isplitl [HP HE T2 A4]
    · isplitl [HP]; · iexact HP
      isplitl [HE]; · iexact HE
      isplitl [T2]; · iexact T2
      iexact A4
    isplitl [C2 A5]
    · isplitl [C2]; · iexact C2
      iexact A5
    rw [stg_nx]
    iexact HO
  iintro %_ ⟨Hg, A4, ⟨HE, A5⟩, HO⟩
  isplitl [Hg]
  · iapply (blocks_whole c (tgtM (stg (nx l)).val) (V.Y (l.val + 1)))
    iapply (Entails.of_eq (bigSep_congr (s := Finset.univ) fun r _ => show
      gBlk c (nx l) V 0 r = (ownsTc c (blkM (tgtM (stg (nx l)).val) (xo c r)) fullShare (V.Y (l.val + 1) (xo c r)) : sProp 𝕄) by
        unfold gBlk; rw [shr_birth (Nat.zero_le _)]))
    iexact Hg
  isplitl [HF]; · iexact HF
  isplitl [HB HD]
  · iapply (part_back (V := V) c l)
    unfold rBlk
    isplitl [HB]; · iexact HB
    iexact HD
  isplitl [Hwi]; · iexact Hwi
  isplitl [Hwo]; · iexact Hwo
  isplitl [HE]; · iexact HE
  isplitl [HLv]; · iexact HLv
  isplitr [HO]
  · isplitl [A2]; · iexact A2
    isplitl [A3]; · iexact A3
    isplitl [A4]; · iexact A4
    iexact A5
  iexact HO

end Cert.Butterfly

end
-- ==== Proof.Body.lean ====
/-
# The body

The handshake, the first gather and the three layers, one after the other.
-/
module

public import proofs.«01_k».proof.Proof.Layer

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Vals F} (K : Dev nD × Option (Fin 6 × Fin 31) → ℕ) (c : Dev nD)

/-! ## Products over small index types -/

omit [FloatOps F] in
/-- A product over five indices, written out; -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
/-- over six; -/
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
/-- over seven. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The handshake -/

/-- The gather slots whose partner is 16 away are those of phase 0; -/
theorem agMask_seg16 : (Finset.univ.filter fun s : Fin 31 => agMask s = 16) = agSeg 0 := by decide +kernel
/-- 4 away, phase 1; -/
theorem agMask_seg4 : (Finset.univ.filter fun s : Fin 31 => agMask s = 4) = agSeg 1 := by decide +kernel
/-- 2 away, phase 2; -/
theorem agMask_seg2 : (Finset.univ.filter fun s : Fin 31 => agMask s = 2) = agSeg 2 := by decide +kernel
/-- 8 away, phase 3; -/
theorem agMask_seg8 : (Finset.univ.filter fun s : Fin 31 => agMask s = 8) = agSeg 3 := by decide +kernel
/-- 1 away, phase 4. -/
theorem agMask_seg1 : (Finset.univ.filter fun s : Fin 31 => agMask s = 1) = agSeg 4 := by decide +kernel

omit [FloatOps F] in
/-- The slots by their partners, in the order of the signals. -/
theorem bigSep_partners (Φ : Fin 31 → sProp 𝕄) :
    bigSep Finset.univ Φ = bigSep Finset.univ fun i : Fin 5 => bigSep (Finset.univ.filter fun s => agMask s = barMask i) Φ := by
  rw [bigSep_fin5, bigSep_phases]
  show _ = iprop(bigSep (Finset.univ.filter fun s => agMask s = 1) Φ ∗ bigSep (Finset.univ.filter fun s => agMask s = 2) Φ
    ∗ bigSep (Finset.univ.filter fun s => agMask s = 4) Φ ∗ bigSep (Finset.univ.filter fun s => agMask s = 8) Φ ∗ bigSep (Finset.univ.filter fun s => agMask s = 16) Φ)
  rw [agMask_seg16, agMask_seg4, agMask_seg2, agMask_seg8, agMask_seg1]
  refine BI.equiv_iff.mp ⟨?_, ?_⟩
  · change (_ : sProp 𝕄) ⊢ _
    iintro ⟨H0, H1, H2, H3, H4⟩
    isplitl [H4]; · iexact H4
    isplitl [H2]; · iexact H2
    isplitl [H1]; · iexact H1
    isplitl [H3]; · iexact H3
    iexact H0
  · change (_ : sProp 𝕄) ⊢ _
    iintro ⟨H4, H2, H1, H3, H0⟩
    isplitl [H0]; · iexact H0
    isplitl [H1]; · iexact H1
    isplitl [H2]; · iexact H2
    isplitl [H3]; · iexact H3
    iexact H4

/-- The handshake's masks are those of its five signals, -/
theorem masks_image : masks = Finset.univ.image barMask := by decide
/-- each once. -/
theorem barMask_inj : Function.Injective barMask := by decide

omit [FloatOps F] in
/-- What a device gives in the handshake: its grants of stages 0 and 1, by partners. -/
theorem give_eq : iprop(Mine (F := F) c 0 ∗ Mine (F := F) c 1)
    = bigSep Finset.univ fun i : Fin 5 => barPay (F := F) (xo c (barMask i)) (barMask i) := by
  unfold Mine
  rw [bigSep_univ_equiv pairing.symm fun s => grant (F := F) 1 c s, ← bigSep_sep', bigSep_partners]
  refine bigSep_congr fun i _ => ?_
  unfold barPay
  rw [xo_xo]
  rfl
omit [FloatOps F] in
/-- What a device gets: its partners' grants of stages 0 and 1. -/
theorem get_eq : (bigSep masks fun d => barPay (F := F) c d) = iprop(Peer (F := F) c 0 ∗ Peer (F := F) c 1) := by
  unfold Peer
  rw [bigSep_univ_equiv pairing.symm fun s => grant (F := F) 1 (xo c (mask 1 s)) s, ← bigSep_sep', bigSep_partners,
    masks_image, bigSep_image_of_injOn (fun i _ i' _ h => barMask_inj h)]
  refine bigSep_congr fun i _ => ?_
  unfold barPay
  refine bigSep_congr fun s hs => ?_
  have hm : agMask s = barMask i := (Finset.mem_filter.mp hs).2
  show iprop(_ ∗ _) = iprop(grant (F := F) 0 (xo c (agMask s)) s ∗ grant (F := F) 1 (xo c (rsMask (toRs s))) (toRs s))
  rw [rsMask_toRs, hm]

/-- The tokens a device's signals spend, and that its partners' handshake cells are at their round. -/
def BarTok : sProp 𝕄 := bigSep Finset.univ fun i : Fin 5 =>
  iprop(dutyTok ER (barCell (xo c (barMask i))) 0 (barMask i) ∗ reached ER (barCell (xo c (barMask i))) 0)

/-- A signal. -/
theorem signal_step (i : Fin 5) :
    iprop(Recs V K ∗ (dutyTok ER (barCell (xo c (barMask i))) 0 (barMask i) ∗ reached ER (barCell (xo c (barMask i))) 0)
        ∗ barPay (F := F) (xo c (barMask i)) (barMask i) ∗ Ow (F := F) c i.val)
      ⊢ WP c (semSignalWord (peerDev c (barMask i)) barSem 1#32) (fun _ => Ow (F := F) c (i.val + 1)) := by
  unfold WP Ow
  rw [peerDev_eq]
  simp only [semSignalWord]
  iintro ⟨#HI, ⟨Ht, #Hr⟩, Hp, ⟨%W, HO⟩⟩
  iapply (Rounds.wp_signal 𝒱₀ ER (Rd V) (c : Thread nD τ) none (dst := (xo c (barMask i) : Thread nD τ)) (κ := K (xo c (barMask i), none))
      (d := barMask i) (by rw [duties_bar, masks_image]; exact Finset.mem_image_of_mem _ (Finset.mem_univ i))
      (k' := 1) (amount_bar V _ _) 0 (owed c (i.val + 1)) (owed_peel c (.inl i))) $$ [HO Ht Hp]
  · isplitr; · iapply (inv_at V K (xo c (barMask i), none)); iexact HI
    isplitl [HO]; · iexact HO
    isplitl [Ht]; · iexact Ht
    isplitl [Hp]; · iapply (Entails.of_eq (payload_bar V (xo c (barMask i)) (barMask i)).symm); iexact Hp
    iexact Hr
  iintro HO
  rw [wp_ret]; imodintro
  iexists W; iexact HO

/-- The wait for the five partners. -/
theorem meet_step :
    iprop(Recs V K ∗ cred (tallyAt (barCell c) 0 5) ∗ atPos ER (barCell c) 0 ∅ 0 ∗ Ow (F := F) c 5)
      ⊢ WP c (semWaitWord barSem 5#32) (fun _ => iprop((Peer (F := F) c 0 ∗ Peer (F := F) c 1) ∗ atPos ER (barCell c) 1 ∅ 0 ∗ Ow (F := F) c 5)) := by
  rw [← get_eq, ← rest_bar V]
  unfold WP Ow
  simp only [semWaitWord]
  iintro ⟨#HI, Hc, Hat, ⟨%W, HO⟩⟩
  iapply (Rounds.wp_wait_rest_token 𝒱₀ ER (Rd V) (c : Thread nD τ) none (κ := K (c, none))
      (wpE_semWait_eq 𝒱₀ (c : Thread nD τ) none Set.univ) (Set.mem_univ _) 0 (O := owed c 5) (W := W) (R := 0) (m := 0) (T := ∅)
      (by rw [Nat.zero_add, expect_bar]; decide)) $$ [Hc HO Hat]
  · isplitr; · iapply (inv_at V K (c, none)); iexact HI
    isplitl [Hc]; · iexact Hc
    isplitl [HO]; · iexact HO
    isplitr
    · iapply (may_at V K c (.reg barSem) 0 5 (by decide) (fun p hp => by
        rcases p with i | ⟨j, s⟩
        · have := i.isLt; simp only [pos] at hp; omega
        · show 1 < 2 + 5 * j.val + ph j.val s; omega)); iexact HI
    iexact Hat
  iintro ⟨HO, Hat, -, Hpay⟩
  rw [wp_ret]; imodintro
  isplitl [Hpay]; · iexact Hpay
  isplitl [Hat]; · iexact Hat
  iexists _; iexact HO

/-! ## The layers -/

/-- A buffer holding anything. -/
def Any {s : Shape} {e : EltTy} (mr : Memref sig .tc .vmem s e) : sProp 𝕄 := iprop(∃ X : s.Idx → Elt F e, ownsTc c mr fullShare X)

/-- A layer before the last doesn't gather into the result: -/
theorem tgt_mid : ∀ l : Fin 3, l.val < 2 → ((stg (nx l)).val = 6) = False := by decide
/-- its gather's copies carry grants. -/
theorem nx_mid : ∀ l : Fin 3, l.val < 2 → ¬ ((stg (nx l)).val = 0 ∨ (stg (nx l)).val = 6) := by decide
/-- The stage after a layer's gather is a scatter, by its receive array -/
theorem rK_after : ∀ l : Fin 3, rK ((stg (nx l)).val + 1) = 3 := by decide
/-- and its round. -/
theorem ix_after : ∀ l : Fin 3, ix ((stg (nx l)).val + 1) = l.val + 1 := by decide

omit [FloatOps F] in
/-- The staging slots with their receive cells are the grants of a scatter. -/
theorem land_mine (j r : Nat) (hj : j % 2 = 1) (hr : rK j = 3) (hi : ix j = r) :
    iprop(bigSep Finset.univ (Land (F := F) c) ∗ bigSep Finset.univ (At (F := F) c 3 r)) ⊢ iprop(Mine (F := F) c j ∗ bigSep Finset.univ (At (F := F) c 3 r)) := by
  have h := mine_intro (F := F) c j
  rw [hr, hi] at h
  refine (Entails.of_eq ?_).trans h
  rw [bigSep_congr (s := Finset.univ) fun s _ => show Land (F := F) c s = iprop(∃ v : Blk F, ownsTc c (dst j c s) fullShare v) by
    unfold Land dst; rw [if_pos hj]]

/-- A layer but the last: from the gathered rows to the next gathered rows. -/
theorem layer_mid (l : Fin 3) (hl : l.val < 2) (hV : V.Sums) (wi : Memref sig .tc .vmem S512x1024 .f32) (wo : Memref sig .tc .vmem S1024x512 .f32)
    (vi : Vec F S512x1024 .f32) (vo : Vec F S1024x512 .f32)
    (hP : ∀ b, V.P l.val 0 c b = blkOf (mlp (glueB (V.Y l.val)) vi vo) b) (hY : V.Y (l.val + 1) c = sameShape (V.P l.val 5 c c)) :
    iprop(Recs V K ∗ ownsTc c xfM fullShare (glueB (V.Y l.val)) ∗ Any (F := F) c partM ∗ ownsTc c wi fullShare vi ∗ ownsTc c wo fullShare vo
        ∗ Peer (F := F) c (1 + 2 * l.val) ∗ LayerIn (F := F) c l ∗ LayerAt (F := F) c l.val ∗ Ow (F := F) c (5 + 31 * (1 + 2 * l.val)))
      ⊢ WP c (layer c xfM partM stageM wi wo xfM cc0_scratch5 cc0_scratch6 cc0_scratch7 cc0_scratch8 sameShape)
          (fun _ => iprop(ownsTc c xfM fullShare (glueB (V.Y (l.val + 1))) ∗ Any (F := F) c partM ∗ ownsTc c wi fullShare vi ∗ ownsTc c wo fullShare vo
            ∗ Peer (F := F) c (1 + 2 * (l.val + 1)) ∗ LayerAt (F := F) c (l.val + 1) ∗ Ow (F := F) c (5 + 31 * (1 + 2 * (l.val + 1))))) := by
  have ht : tgtM (stg (nx l)).val = xfM := by unfold tgtM; rw [if_neg (by rw [tgt_mid l hl]; exact id)]
  have h := layer_wp (V := V) K c l hV wi wo vi vo sameShape hP hY.symm iprop(emp) iprop(emp) iprop(emp)
    (by
      rw [ht]
      iintro ⟨H, -⟩
      isplitl [H]
      · iexists _; iexact H
      · iempintro)
    (by
      rw [extraOut_eq c (nx_mid l hl)]
      iintro ⟨HL, HA⟩
      ihave H := (land_mine c _ _ (by simp only; omega) (rK_after l) (ix_after l)) $$ [HL HA]
      · isplitl [HL]; · iexact HL
        iexact HA
      icases H with ⟨HM, HA⟩
      isplitl [HM]; · iexact HM
      isplitl [HA]; · iexact HA
      iempintro)
  rw [ht, extraIn_eq c (nx_mid l hl)] at h
  unfold Any
  iintro ⟨#HI, Hx, Hp, Hwi, Hwo, HP, HT, HA, HO⟩
  iapply (last_wp c h) $$ [Hx Hp Hwi Hwo HP HT HA HO]
  · isplitr; · iexact HI
    isplitl [Hx]; · iexact Hx
    isplitr; · iempintro
    isplitl [Hp]; · iexact Hp
    isplitl [Hwi]; · iexact Hwi
    isplitl [Hwo]; · iexact Hwo
    isplitl [HP]; · iexact HP
    isplitl [HT]; · iexact HT
    isplitl [HA]; · iexact HA
    iexact HO
  iintro %_ ⟨Hx, -, Hp, Hwi, Hwo, HP, -, HA, HO⟩
  isplitl [Hx]; · iexact Hx
  isplitl [Hp]; · iexact Hp
  isplitl [Hwi]; · iexact Hwi
  isplitl [Hwo]; · iexact Hwo
  isplitl [HP]
  · iapply (Entails.of_eq (congrArg (Peer (F := F) c) (show (stg (nx l)).val + 1 = 1 + 2 * (l.val + 1) by simp only; omega)))
    iexact HP
  isplitl [HA]; · iexact HA
  iapply (Entails.of_eq (congrArg (fun n => Ow (F := F) c (5 + 31 * n)) (show (stg (nx l)).val + 1 = 1 + 2 * (l.val + 1) by simp only; omega)))
  iexact HO

/-- The last layer: its gather fills the result. -/
theorem layer_last (hV : V.Sums) (wi : Memref sig .tc .vmem S512x1024 .f32) (wo : Memref sig .tc .vmem S1024x512 .f32)
    (vi : Vec F S512x1024 .f32) (vo : Vec F S1024x512 .f32)
    (hP : ∀ b, V.P 2 0 c b = blkOf (mlp (glueB (V.Y 2)) vi vo) b) (hY : V.Y 3 c = V.P 2 5 c c) :
    iprop(Recs V K ∗ ownsTc c xfM fullShare (glueB (V.Y 2)) ∗ Any (F := F) c outM ∗ Any (F := F) c partM ∗ ownsTc c wi fullShare vi ∗ ownsTc c wo fullShare vo
        ∗ Peer (F := F) c 5 ∗ LayerIn (F := F) c 2 ∗ LayerAt (F := F) c 2 ∗ Ow (F := F) c (5 + 31 * 5))
      ⊢ WP c (layer c xfM partM stageM wi wo outM cc0_scratch5 cc0_scratch6 cc0_scratch7 cc0_scratch8 id)
          (fun _ => iprop(ownsTc c outM fullShare (glueB (V.Y 3)) ∗ Any (F := F) c xfM ∗ Any (F := F) c partM ∗ ownsTc c wi fullShare vi ∗ ownsTc c wo fullShare vo
            ∗ Any (F := F) c stageM ∗ LayerAt (F := F) c 3 ∗ Ow (F := F) c 222)) := by
  have h := layer_wp (V := V) K c 2 hV wi wo vi vo id hP hY.symm (Any (F := F) c outM) (ownsTc c xfM fullShare (glueB (V.Y 2))) (bigSep Finset.univ (Land (F := F) c))
    (by
      unfold Any
      iintro ⟨H, Ho⟩
      isplitl [Ho]; · iexact Ho
      iexact H)
    (by
      rw [extraOut_emp c (j := (stg (nx 2)).val) (.inr rfl)]
      iintro ⟨HL, HA⟩
      isplitr; · iempintro
      isplitl [HA]; · iexact HA
      iexact HL)
  iintro ⟨#HI, Hx, Hout, Hp, Hwi, Hwo, HP, HT, HA, HO⟩
  iapply (last_wp c h) $$ [Hx Hout Hp Hwi Hwo HP HT HA HO]
  · isplitr; · iexact HI
    isplitl [Hx]; · iexact Hx
    isplitl [Hout]; · iexact Hout
    isplitl [Hp]; · unfold Any; iexact Hp
    isplitl [Hwi]; · iexact Hwi
    isplitl [Hwo]; · iexact Hwo
    isplitl [HP]; · iexact HP
    isplitl [HT]; · iexact HT
    isplitl [HA]; · iexact HA
    iexact HO
  iintro %_ ⟨Hout, Hx, Hp, Hwi, Hwo, -, HL, HA, HO⟩
  isplitl [Hout]; · iexact Hout
  isplitl [Hx]; · unfold Any; iexists _; iexact Hx
  isplitl [Hp]; · unfold Any; iexact Hp
  isplitl [Hwi]; · iexact Hwi
  isplitl [Hwo]; · iexact Hwo
  isplitl [HL]
  · unfold Any; iapply (slots_stage c); unfold Land; iexact HL
  isplitl [HA]; · iexact HA
  iexact HO

end Cert.Butterfly

end
-- ==== Proof.Run.lean ====
/-
# One device's run

From what the launch gives a device to its result: the handshake, the first gather, the three layers.
-/
module

public import proofs.«01_k».proof.Proof.Body

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Vals F} (K : Dev nD × Option (Fin 6 × Fin 31) → ℕ) (c : Dev nD)

/-- The values follow the computation: from the blocks `x` of the input and the weights `wi`, `wo` of each layer. -/
structure Vals.Good (V : Vals F) (x : Dev nD → Blk F) (wi : Fin 3 → Dev nD → Vec F S512x1024 .f32) (wo : Fin 3 → Dev nD → Vec F S1024x512 .f32) : Prop where
  sums : V.Sums
  start : ∀ c, V.Y 0 c = sameShape (sameShape (x c))
  own : ∀ (l : Fin 3) (c b), V.P l.val 0 c b = blkOf (mlp (glueB (V.Y l.val)) (wi l c) (wo l c)) b
  mid : ∀ l : Fin 3, l.val < 2 → ∀ c, V.Y (l.val + 1) c = sameShape (V.P l.val 5 c c)
  last : ∀ c, V.Y 3 c = V.P 2 5 c c

/-- The staged first weights, -/
abbrev wiM : Fin 3 → Memref sig .tc .vmem S512x1024 .f32 := ![Memref.whole cc0_stg1_0, Memref.whole cc0_stg3_0, Memref.whole cc0_stg5_0]
/-- and second weights. -/
abbrev woM : Fin 3 → Memref sig .tc .vmem S1024x512 .f32 := ![Memref.whole cc0_stg2_0, Memref.whole cc0_stg4_0, Memref.whole cc0_stg6_0]

/-- The weights of a layer held. -/
def Wts (wi : Fin 3 → Dev nD → Vec F S512x1024 .f32) (wo : Fin 3 → Dev nD → Vec F S1024x512 .f32) (l : Fin 3) : sProp 𝕄 :=
  iprop(ownsTc c (wiM l) fullShare (wi l c) ∗ ownsTc c (woM l) fullShare (wo l c))

/-- The ghost state a device starts from. -/
def Ghost : sProp 𝕄 :=
  iprop((atPos ER (barCell c) 0 ∅ 0 ∗ BarTok (F := F) c)
    ∗ (bigSep Finset.univ fun k : Fin 6 => bigSep Finset.univ (At (F := F) c k 0))
    ∗ (bigSep Finset.univ fun j : Fin 7 => bigSep Finset.univ (SendTok (F := F) j.val c)))
/-- The credits a device starts from. -/
def Credits : sProp 𝕄 :=
  iprop(cred (tallyAt (barCell c) 0 5) ∗ bigSep Finset.univ fun j : Fin 7 => bigSep Finset.univ (Cr (F := F) c (rK j.val) (ix j.val)))
/-- The cells at the end. -/
def CellsEnd : sProp 𝕄 :=
  iprop(atPos ER (barCell c) 1 ∅ 0 ∗ bigSep Finset.univ fun k : Fin 6 => bigSep Finset.univ (At (F := F) c k (rounds k.val)))

/-- Before the first gather: the own block written, the other blocks and the staging slots given away. -/
theorem give_start :
    iprop(Any (F := F) c xfM ∗ Any (F := F) c stageM ∗ bigSep Finset.univ (At (F := F) c 1 0) ∗ bigSep Finset.univ (At (F := F) c 3 0))
      ⊢ iprop((∃ v : Blk F, ownsTc c (blkM xfM (xo c 0)) fullShare v) ∗ (Mine (F := F) c 0 ∗ Mine (F := F) c 1)
        ∗ bigSep Finset.univ (At (F := F) c 1 0) ∗ bigSep Finset.univ (At (F := F) c 3 0)) := by
  have hmine := mine_intro (F := F) c 0
  rw [show rK 0 = 1 from rfl, show ix 0 = 0 from rfl,
    bigSep_congr (s := Finset.univ) fun s _ => show iprop(∃ v : Blk F, (ownsTc c (dst 0 c s) fullShare v : sProp 𝕄)) = iprop(∃ v : Blk F, ownsTc c (blkM xfM (xo c (agGot s))) fullShare v) from rfl] at hmine
  unfold Any
  iintro ⟨⟨%X, Hx⟩, ⟨%S, Hs⟩, A1, A3⟩
  ihave Hx := (whole_own c xfM X) $$ Hx
  icases Hx with ⟨H0, Hx⟩
  ihave Hs := (stage_slots c S) $$ Hs
  ihave H1 := (land_mine c 1 0 rfl rfl rfl) $$ [Hs A3]
  · isplitl [Hs]; · unfold Land; iexact Hs
    iexact A3
  ihave H2 := hmine $$ [Hx A1]
  · isplitl [Hx]; · iexact Hx
    iexact A1
  icases H1 with ⟨M1, A3⟩
  icases H2 with ⟨M0, A1⟩
  isplitl [H0]; · iexists _; iexact H0
  isplitl [M0 M1]
  · isplitl [M0]; · iexact M0
    iexact M1
  isplitl [A1]; · iexact A1
  iexact A3

/-- The first gather: from the device's own block to all. -/
theorem first_gather :
    iprop(Recs V K ∗ ownsTc c (blkM xfM (xo c 0)) fullShare (V.Y 0 c) ∗ Peer (F := F) c 0 ∗ bigSep Finset.univ (SendTok (F := F) 0 c)
        ∗ bigSep Finset.univ (Cr (F := F) c 1 0) ∗ bigSep Finset.univ (At (F := F) c 0 0) ∗ bigSep Finset.univ (At (F := F) c 1 0) ∗ Ow (F := F) c 5)
      ⊢ WP c (agAll c xfM cc0_scratch3 cc0_scratch4)
          (fun _ => iprop(ownsTc c xfM fullShare (glueB (V.Y 0)) ∗ bigSep Finset.univ (At (F := F) c 0 1) ∗ bigSep Finset.univ (At (F := F) c 1 1) ∗ Ow (F := F) c (5 + 31 * 1))) := by
  have h := gather_wp (V := V) K c 0
  rw [preS_eq, preR_eq, postR_eq, extraOut_emp c (j := (stg 0).val) (.inl rfl)] at h
  iintro ⟨#HI, H0, HP, T, C, A0, A1, HO⟩
  iapply (last_wp c h) $$ [H0 HP T C A0 A1 HO]
  · isplitr; · iexact HI
    isplitl [H0]
    · iapply (Entails.of_eq (show (ownsTc c (blkM xfM (xo c 0)) fullShare (V.Y 0 c) : sProp 𝕄) = gBlk c 0 V 0 0 by
        unfold gBlk; rw [shr_birth (by decide)]
        exact congrArg (fun d => (ownsTc c (blkM xfM (xo c 0)) fullShare (V.Y 0 d) : sProp 𝕄)) (xo_zero c).symm))
      iexact H0
    isplitl [HP T A0]
    · isplitl [HP]; · iexact HP
      isplitr; · iempintro
      isplitl [T]; · iexact T
      iexact A0
    isplitl [C A1]
    · isplitl [C]; · iexact C
      iexact A1
    iexact HO
  iintro %_ ⟨Hg, A0, ⟨-, A1⟩, HO⟩
  isplitl [Hg]
  · iapply (blocks_whole c xfM (V.Y 0))
    iapply (Entails.of_eq (bigSep_congr (s := Finset.univ) fun r _ => show
      gBlk c 0 V 0 r = (ownsTc c (blkM xfM (xo c r)) fullShare (V.Y 0 (xo c r)) : sProp 𝕄) by
        unfold gBlk; rw [shr_birth (Nat.zero_le _)]; rfl))
    iexact Hg
  isplitl [A0]; · iexact A0
  isplitl [A1]; · iexact A1
  iexact HO

/-- The program reads its device's number. -/
theorem device_wp {β : Type} {k : Dev nD → KProg F β} {Q : β → sProp 𝕄} : WP c (k c) Q ⊢ WP c ((Prog.lift .deviceId : KProg F (Dev nD)) >>= k) Q := by
  unfold WP
  simp only [Prog.lift, Prog.bind_op, Prog.bind_ret, wp_deviceId]
  exact BI.Entails.refl _

set_option maxHeartbeats 800000 in
/-- The whole body of a device. -/
theorem body_wp {x : Dev nD → Blk F} {wi : Fin 3 → Dev nD → Vec F S512x1024 .f32} {wo : Fin 3 → Dev nD → Vec F S1024x512 .f32} (hG : V.Good x wi wo) :
    iprop(Recs V K ∗ Ghost (F := F) c ∗ Credits (F := F) c ∗ Ow (F := F) c 0 ∗ (Any (F := F) c xfM ∗ Any (F := F) c partM ∗ Any (F := F) c stageM)
        ∗ ownsTc c xM fullShare (x c) ∗ Wts c wi wo 0 ∗ Wts c wi wo 1 ∗ Wts c wi wo 2 ∗ Any (F := F) c outM)
      ⊢ WP c (rolled xM (wiM 0) (woM 0) (wiM 1) (woM 1) (wiM 2) (woM 2) outM xfM partM stageM
          cc0_scratch3 cc0_scratch4 cc0_scratch5 cc0_scratch6 cc0_scratch7 cc0_scratch8)
          (fun _ => iprop(CellsEnd (F := F) c ∗ Ow (F := F) c 222 ∗ (Any (F := F) c xfM ∗ Any (F := F) c partM ∗ Any (F := F) c stageM)
            ∗ ownsTc c xM fullShare (x c) ∗ Wts c wi wo 0 ∗ Wts c wi wo 1 ∗ Wts c wi wo 2 ∗ ownsTc c outM fullShare (glueB (V.Y 3)))) := by
  have hl0 := layer_mid (V := V) K c 0 (by decide) hG.sums (wiM 0) (woM 0) (wi 0 c) (wo 0 c) (hG.own 0 c) (hG.mid 0 (by decide) c)
  have hl1 := layer_mid (V := V) K c 1 (by decide) hG.sums (wiM 1) (woM 1) (wi 1 c) (wo 1 c) (hG.own 1 c) (hG.mid 1 (by decide) c)
  have hl2 := layer_last (V := V) K c hG.sums (wiM 2) (woM 2) (wi 2 c) (wo 2 c) (hG.own 2 c) (hG.last c)
  unfold Ghost Credits BarTok Wts CellsEnd rolled
  rw [bigSep_fin5, bigSep_fin6, bigSep_fin7, bigSep_fin7, bigSep_fin6]
  iintro ⟨#HI, ⟨⟨Hbar, B0, B1, B2, B3, B4⟩, ⟨A0, A1, A2, A3, A4, A5⟩, T0, T1, T2, T3, T4, T5, T6⟩, ⟨Hcb, C0, C1, C2, C3, C4, C5, C6⟩, HO,
    ⟨Hxf, Hpart, Hst⟩, Hx, ⟨Wi0, Wo0⟩, ⟨Wi1, Wo1⟩, ⟨Wi2, Wo2⟩, Hout⟩
  ihave H := (give_start c) $$ [Hxf Hst A1 A3]
  · isplitl [Hxf]; · iexact Hxf
    isplitl [Hst]; · iexact Hst
    isplitl [A1]; · iexact A1
    iexact A3
  icases H with ⟨⟨%v0, H0⟩, HM, A1, A3⟩
  ihave HM := (Entails.of_eq ((give_eq (F := F) c).trans (bigSep_fin5 _))) $$ HM
  icases HM with ⟨M0, M1, M2, M3, M4⟩
  iapply (device_wp c)
  iapply (bind_wp c (signal_step (V := V) K c 0)) $$ [B0 M0 HO]
  · isplitr; · iexact HI
    isplitl [B0]; · iexact B0
    isplitl [M0]; · iexact M0
    iexact HO
  iintro %_ HO
  iapply (bind_wp c (signal_step (V := V) K c 1)) $$ [B1 M1 HO]
  · isplitr; · iexact HI
    isplitl [B1]; · iexact B1
    isplitl [M1]; · iexact M1
    iexact HO
  iintro %_ HO
  iapply (bind_wp c (signal_step (V := V) K c 2)) $$ [B2 M2 HO]
  · isplitr; · iexact HI
    isplitl [B2]; · iexact B2
    isplitl [M2]; · iexact M2
    iexact HO
  iintro %_ HO
  iapply (bind_wp c (signal_step (V := V) K c 3)) $$ [B3 M3 HO]
  · isplitr; · iexact HI
    isplitl [B3]; · iexact B3
    isplitl [M3]; · iexact M3
    iexact HO
  iintro %_ HO
  iapply (bind_wp c (signal_step (V := V) K c 4)) $$ [B4 M4 HO]
  · isplitr; · iexact HI
    isplitl [B4]; · iexact B4
    isplitl [M4]; · iexact M4
    iexact HO
  iintro %_ HO
  iapply (bind_wp c (meet_step (V := V) K c)) $$ [Hcb Hbar HO]
  · isplitr; · iexact HI
    isplitl [Hcb]; · iexact Hcb
    isplitl [Hbar]; · iexact Hbar
    iexact HO
  iintro %_ ⟨⟨P0, P1⟩, Hbar, HO⟩
  iapply (load_whole c xM zero2 _ _ _) $$ Hx
  iintro Hx
  iapply (load_blk c xfM (xo c 0) _ (off1_eq c) fullShare _) $$ H0
  iintro H0
  iapply (bind_wp c (store_blk c xfM (xo c 0) _ (off1_eq c) _ _)) $$ H0
  iintro %_ H0
  ihave H0 := (Entails.of_eq (congrArg (fun v => (ownsTc c (blkM xfM (xo c 0)) fullShare v : sProp 𝕄)) (hG.start c).symm)) $$ H0
  iapply (bind_wp c (first_gather (V := V) K c)) $$ [H0 P0 T0 C0 A0 A1 HO]
  · isplitr; · iexact HI
    isplitl [H0]; · iexact H0
    isplitl [P0]; · iexact P0
    isplitl [T0]; · iexact T0
    isplitl [C0]; · iexact C0
    isplitl [A0]; · iexact A0
    isplitl [A1]; · iexact A1
    iexact HO
  iintro %_ ⟨Hxf, A0, A1, HO⟩
  iapply (bind_wp c hl0) $$ [Hxf Hpart Wi0 Wo0 P1 T1 T2 C1 C2 A2 A3 A4 A5 HO]
  · isplitr; · iexact HI
    isplitl [Hxf]; · iexact Hxf
    isplitl [Hpart]; · iexact Hpart
    isplitl [Wi0]; · iexact Wi0
    isplitl [Wo0]; · iexact Wo0
    isplitl [P1]; · iexact P1
    isplitl [T1 T2 C1 C2]
    · unfold LayerIn
      isplitl [T1]; · iexact T1
      isplitl [T2]; · iexact T2
      isplitl [C1]; · iexact C1
      iexact C2
    isplitl [A2 A3 A4 A5]
    · unfold LayerAt
      isplitl [A2]; · iexact A2
      isplitl [A3]; · iexact A3
      isplitl [A4]; · iexact A4
      iexact A5
    iexact HO
  iintro %_ ⟨Hxf, Hpart, Wi0, Wo0, P1, HA, HO⟩
  iapply (bind_wp c hl1) $$ [Hxf Hpart Wi1 Wo1 P1 T3 T4 C3 C4 HA HO]
  · isplitr; · iexact HI
    isplitl [Hxf]; · iexact Hxf
    isplitl [Hpart]; · iexact Hpart
    isplitl [Wi1]; · iexact Wi1
    isplitl [Wo1]; · iexact Wo1
    isplitl [P1]; · iexact P1
    isplitl [T3 T4 C3 C4]
    · unfold LayerIn
      isplitl [T3]; · iexact T3
      isplitl [T4]; · iexact T4
      isplitl [C3]; · iexact C3
      iexact C4
    isplitl [HA]; · iexact HA
    iexact HO
  iintro %_ ⟨Hxf, Hpart, Wi1, Wo1, P1, HA, HO⟩
  iapply (last_wp c hl2) $$ [Hxf Hout Hpart Wi2 Wo2 P1 T5 T6 C5 C6 HA HO]
  · isplitr; · iexact HI
    isplitl [Hxf]; · iexact Hxf
    isplitl [Hout]; · iexact Hout
    isplitl [Hpart]; · iexact Hpart
    isplitl [Wi2]; · iexact Wi2
    isplitl [Wo2]; · iexact Wo2
    isplitl [P1]; · iexact P1
    isplitl [T5 T6 C5 C6]
    · unfold LayerIn
      isplitl [T5]; · iexact T5
      isplitl [T6]; · iexact T6
      isplitl [C5]; · iexact C5
      iexact C6
    isplitl [HA]; · iexact HA
    iexact HO
  iintro %_ ⟨Hout, Hxf, Hpart, Wi2, Wo2, Hst, HA, HO⟩
  unfold LayerAt
  icases HA with ⟨A2, A3, A4, A5⟩
  isplitl [Hbar A0 A1 A2 A3 A4 A5]
  · isplitl [Hbar]; · iexact Hbar
    isplitl [A0]; · iexact A0
    isplitl [A1]; · iexact A1
    isplitl [A2]; · iexact A2
    isplitl [A3]; · iexact A3
    isplitl [A4]; · iexact A4
    iexact A5
  isplitl [HO]; · iexact HO
  isplitl [Hxf Hpart Hst]
  · isplitl [Hxf]; · iexact Hxf
    isplitl [Hpart]; · iexact Hpart
    iexact Hst
  isplitl [Hx]; · iexact Hx
  isplitl [Wi0 Wo0]
  · isplitl [Wi0]; · iexact Wi0
    iexact Wo0
  isplitl [Wi1 Wo1]
  · isplitl [Wi1]; · iexact Wi1
    iexact Wo1
  isplitl [Wi2 Wo2]
  · isplitl [Wi2]; · iexact Wi2
    iexact Wo2
  iexact Hout

end Cert.Butterfly

end
-- ==== Proof.Funds.lean ====
/-
# What the launch deals

The cells' invariants, the devices' positions, tokens and credits: minted at the launch, each token and credit given to
the device that uses it. And at the end, the cells closed again.
-/
module

public import proofs.«01_k».proof.Proof.Run
public import Idealize.ShloMosaic.Lib.Rounds.Family

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MM F

variable (V : Vals F)

/-! ## The cells and the tokens -/

/-- Transfer cells differ by device, array or slot. -/
theorem cell_inj {c c' : Dev nD} {k k' : Fin 6} {s s' : Fin 31} (h : cell c k s = cell c' k' s') : c = c' ∧ k = k' ∧ s = s' := by
  have h1 : c = c' := congrArg (fun g : GSem nD τ sig => g.1.1) h
  have h2 : SemLoc.dma (sig := sig) (sem k s) = .dma (sem k' s') := congrArg Prod.snd h
  exact ⟨h1, sem_inj (SemLoc.dma.inj h2)⟩
/-- A handshake cell is no transfer cell. -/
theorem bar_ne_cell (c c' : Dev nD) (k : Fin 6) (s : Fin 31) : barCell c ≠ cell c' k s := fun h => by
  have h2 : SemLoc.reg (sig := sig) barSem = .dma (sem k s) := congrArg Prod.snd h
  cases h2
/-- Handshake cells differ by device. -/
theorem bar_inj {c c' : Dev nD} (h : barCell c = barCell c') : c = c' := congrArg (fun g : GSem nD τ sig => g.1.1) h

/-- Different names are different cells. -/
theorem kcell_injective : Function.Injective kcell := by
  rintro ⟨c, _ | ⟨k, s⟩⟩ ⟨c', _ | ⟨k', s'⟩⟩ h
  · exact congrArg (·, none) (bar_inj h)
  · exact absurd h (bar_ne_cell _ _ _ _)
  · exact absurd h.symm (bar_ne_cell _ _ _ _)
  · obtain ⟨h1, h2, h3⟩ := cell_inj h
    exact congr_arg₂ Prod.mk h1 (congrArg some (Prod.ext h2 h3))
/-- All the cells of the mesh. -/
def allCells : Finset (GSem nD τ sig) := Finset.univ.map ⟨kcell, kcell_injective⟩

/-- The array of a stage's send (`false`) and receive (`true`) cells. -/
def kOf (b : Bool) (j : Nat) : Fin 6 := if b then rK j else sK j

/-- A stage and a direction are known from their array and round. -/
theorem kOf_inj : ∀ (b b' : Bool) (j j' : Fin 7), kOf b j.val = kOf b' j'.val → ix j.val = ix j'.val → b = b' ∧ j = j' := by decide

/-- A device's tokens as minted: the five of its handshake cell; those of every stage's send and receive cells. -/
abbrev Tok : Type := Fin 5 ⊕ (Bool × Fin 7 × Fin 31)
/-- The cell, round and duty of a token. -/
def tokOf (ct : Dev nD × Tok) : GSem nD τ sig × ℕ × Fin 32 := match ct.2 with
  | .inl i => (barCell ct.1, 0, barMask i)
  | .inr (b, j, s) => (cell ct.1 (kOf b j.val) s, ix j.val, 0)

/-- Every token is minted once. -/
theorem tokOf_injective : Function.Injective tokOf := by
  rintro ⟨c, i | ⟨b, j, s⟩⟩ ⟨c', i' | ⟨b', j', s'⟩⟩ h
  · have h1 : c = c' := bar_inj (congrArg Prod.fst h)
    have h2 : barMask i = barMask i' := congrArg (fun x : GSem nD τ sig × ℕ × Fin 32 => x.2.2) h
    exact congr_arg₂ Prod.mk h1 (congrArg Sum.inl (barMask_inj h2))
  · exact absurd (congrArg Prod.fst h) (bar_ne_cell _ _ _ _)
  · exact absurd (congrArg Prod.fst h).symm (bar_ne_cell _ _ _ _)
  · obtain ⟨h1, h2, h3⟩ := cell_inj (congrArg Prod.fst h)
    have h4 : ix j.val = ix j'.val := congrArg (fun x : GSem nD τ sig × ℕ × Fin 32 => x.2.1) h
    obtain ⟨h5, h6⟩ := kOf_inj _ _ _ _ h2 h4
    exact congr_arg₂ Prod.mk h1 (congrArg Sum.inr (Prod.ext h5 (Prod.ext h6 h3)))
/-- All the tokens of the mesh. -/
def allToks : Finset (GSem nD τ sig × ℕ × Fin 32) := Finset.univ.map ⟨tokOf, tokOf_injective⟩

/-- The tokens of device `c`'s own cells. -/
def toks (c : Dev nD) : sProp 𝕄 :=
  iprop((bigSep Finset.univ fun i : Fin 5 => dutyTok ER (barCell c) 0 (barMask i))
    ∗ (bigSep Finset.univ fun j : Fin 7 => bigSep Finset.univ fun s : Fin 31 => dutyTok ER (cell c (rK j.val) s) (ix j.val) 0)
    ∗ (bigSep Finset.univ fun j : Fin 7 => bigSep Finset.univ fun s : Fin 31 => dutyTok ER (cell c (sK j.val) s) (ix j.val) 0))
/-- The tokens device `c` spends. -/
def payToks (c : Dev nD) : sProp 𝕄 :=
  iprop((bigSep Finset.univ fun i : Fin 5 => dutyTok ER (barCell (xo c (barMask i))) 0 (barMask i))
    ∗ bigSep Finset.univ fun j : Fin 7 => bigSep Finset.univ (SendTok (F := F) j.val c))

/-- A family over the devices, re-indexed by every device's partner over a mask. -/
theorem deal_out {I : Type} [Fintype I] (f : I → Fin 32) (Φ : I → Dev nD → sProp 𝕄) :
    (bigSep Finset.univ fun c : Dev nD => bigSep Finset.univ fun i : I => Φ i c)
      = bigSep Finset.univ fun c : Dev nD => bigSep Finset.univ fun i : I => Φ i (xo c (f i)) := by
  rw [BI.bigSep_univ_comm, BI.bigSep_univ_comm (fun (c : Dev nD) (i : I) => Φ i (xo c (f i)))]
  exact bigSep_congr fun i _ => bigSep_univ_equiv (flip (f i)) (Φ i)

/-- A product over stages and slots as one over pairs. -/
theorem bigSep_flat (Φ : Fin 7 → Fin 31 → sProp 𝕄) :
    (bigSep Finset.univ fun j : Fin 7 => bigSep Finset.univ fun s : Fin 31 => Φ j s) = bigSep Finset.univ fun p : Fin 7 × Fin 31 => Φ p.1 p.2 :=
  (bigSep_univ_prod (fun p : Fin 7 × Fin 31 => Φ p.1 p.2)).symm

/-- Every token goes to the device that spends it. -/
theorem toks_around : (bigSep Finset.univ fun c : Dev nD => (toks c : sProp 𝕄)) ⊢ bigSep Finset.univ fun c : Dev nD => payToks c := by
  have hb := deal_out (F := F) barMask (fun i c => (dutyTok ER (barCell c) 0 (barMask i) : sProp 𝕄))
  have hr := deal_out (F := F) (fun p : Fin 7 × Fin 31 => mask p.1.val p.2) (fun p c => (dutyTok ER (cell c (rK p.1.val) p.2) (ix p.1.val) 0 : sProp 𝕄))
  unfold toks payToks SendTok
  simp only [bigSep_sep', bigSep_flat]
  rw [hb, hr]
  iintro ⟨H1, H2, H3⟩
  isplitl [H1]; · iexact H1
  isplitl [H3]; · iexact H3
  iexact H2

/-! ## Minting -/

/-- What the launch element deals device `c`. -/
def G (c : Dev nD) : sProp 𝕄 :=
  iprop((bigSep Finset.univ fun k => roundState ER (Rd V) (kcell (c, k)) 0)
    ∗ (bigSep Finset.univ fun k => iprop(atPos ER (kcell (c, k)) 0 ∅ 0 ∗ reached ER (kcell (c, k)) 0)) ∗ toks c)

/-- The launch element is every device's deal. -/
theorem fund_all : BI.own (ER (initOf allCells allToks)) ⊢ (|==> bigSep Finset.univ (G V) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    refine (bigSep_univ_sum _).trans ?_
    unfold toks
    rw [bigSep_univ_prod, bigSep_univ_eq_bigSepL [true, false] (by decide) (by decide), bigSepL_cons_cons, bigSepL_singleton,
      bigSep_univ_prod, bigSep_univ_prod]
    rfl
  iintro HX
  imod (Rounds.fund ER (Rd V) allCells allToks) $$ HX with ⟨Hst, Hr, Hat, Htok⟩
  imodintro
  ihave Hst' := (Entails.of_eq (hX fun g => roundState ER (Rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The semaphores -/

/-- The kernel's own semaphores: the six arrays. -/
abbrev osem (ks : Fin 6 × Fin 31) : SemLoc sig := .dma (sem ks.1 ks.2)

/-- The kernel's semaphores are its own, and none of the pipeline's. -/
theorem ownSemFacts : Pipeline.OwnSemFacts cfg0.spec osem where
  isScoped ks := (by decide : ∀ q : Fin 194, (SemLoc.dma (sig := sig) q).isScoped .tc = true) (sem ks.1 ks.2)
  inj ks ks' h := by
    obtain ⟨h1, h2⟩ := sem_inj (SemLoc.dma.inj h)
    exact Prod.ext h1 h2
  disj ks w s h := by
    have h1 : ∀ (w : Fin cfg0.W) (s : Fin (cfg0.spec w).nbuf), ((cfg0.spec w).sem s).val < 8 := by decide
    have h2 := h1 w s
    rw [← SemLoc.dma.inj h, sem_val] at h2
    omega

/-- A product over an option type: the missing value's factor and the rest. -/
theorem bigSep_option {I : Type} [Fintype I] [DecidableEq I] (Φ : Option I → sProp 𝕄) :
    bigSep Finset.univ Φ = iprop(Φ none ∗ bigSep Finset.univ fun i => Φ (some i)) := by
  rw [bigSep_univ_equiv (Equiv.optionEquivSumPUnit.{0} I).symm Φ, bigSep_univ_sum, bigSep_univ_of_subsingleton PUnit.unit.{1}]
  exact BI.equiv_iff.mp ⟨BI.sep_comm, BI.sep_comm⟩

/-- The only semaphore that outlives the call is the handshake's. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

/-- The launch's semaphores are the cells'. -/
theorem sems0_eq (c : Dev nD) :
    (bigSep Finset.univ fun k => semVal (kcell (c, k)) 0 : sProp 𝕄)
      = iprop(unscopedSems0 c ∗ Pipeline.ownSems0 (Ix := ℕ) (Name := ℕ) (U := UU) (Lvl := ℕ) (Val := Elt F) (τ := τ) osem c) := by
  rw [unscopedSems0_eq, bigSep_option]; rfl

/-- A device's cells are put under invariants. -/
theorem core_alloc (c : Dev nD) :
    iprop(Pipeline.ownSems0 (Ix := ℕ) (Name := ℕ) (U := UU) (Lvl := ℕ) (Val := Elt F) (τ := τ) osem c ∗ unscopedSems0 c ∗ G V c)
      ⊢ |={Set.univ}=> iprop((bigSep Finset.univ fun k => iprop(∃ κ : ℕ, cellInv ER (Rd V) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus]; · iexact Hus
    iexact Hos
  imod (show iprop((bigSep Finset.univ fun k => semVal (kcell (c, k)) 0) ∗ bigSep Finset.univ fun k => roundState ER (Rd V) (kcell (c, k)) 0)
      ⊢ (|={Set.univ}=> bigSep Finset.univ fun k => iprop(∃ κ : ℕ, cellInv ER (Rd V) κ (kcell (c, k))) : sProp 𝕄) from by
        rw [← bigSep_sep']
        exact (bigSep_mono fun k _ => (Rounds.body_intro ER (Rd V) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## Regrouping -/

/-- Every cell's invariant. -/
def Invs (K : Dev nD × Option (Fin 6 × Fin 31) → ℕ) : sProp 𝕄 :=
  bigSep Finset.univ fun ck => cellInv ER (Rd V) (K ck) (kcell ck)
/-- The invariants stay. -/
instance Invs_persistent (K : Dev nD × Option (Fin 6 × Fin 31) → ℕ) : BI.Persistent (Invs V K) := by unfold Invs; infer_instance

/-- Every cell is at its first round. -/
def Marks : sProp 𝕄 := bigSep Finset.univ fun ck => reached ER (kcell ck) 0
/-- So do the marks. -/
instance Marks_persistent : BI.Persistent (Marks (F := F)) := by unfold Marks; infer_instance

/-- A cell's mark among all. -/
theorem mark_at (ck : Dev nD × Option (Fin 6 × Fin 31)) : (Marks : sProp 𝕄) ⊢ reached ER (kcell ck) 0 :=
  bigSep_elim (Finset.mem_univ ck)

/-- What the global step makes for device `c`. -/
def G' (c : Dev nD) : sProp 𝕄 := iprop(∃ K, Invs V K ∗ Ghost c)

/-- A device's own sides of its cells and the tokens it spends make its ghost state. -/
theorem ghost_intro (K : Dev nD × Option (Fin 6 × Fin 31) → ℕ) (c : Dev nD) :
    iprop((Invs V K ∗ Marks) ∗ (bigSep Finset.univ fun k => atPos ER (kcell (c, k)) 0 ∅ 0) ∗ payToks c) ⊢ G' V c := by
  have hbar : iprop((Marks : sProp 𝕄) ∗ bigSep Finset.univ fun i : Fin 5 => dutyTok ER (barCell (xo c (barMask i))) 0 (barMask i)) ⊢ BarTok c :=
    bigSep_with_persistent fun i _ => by
      iintro ⟨#HM, H⟩
      isplitl [H]; · iexact H
      iapply (mark_at (F := F) (xo c (barMask i), none)); iexact HM
  have hat : iprop((Marks : sProp 𝕄) ∗ bigSep Finset.univ fun k : Fin 6 × Fin 31 => atPos ER (kcell (c, some k)) 0 ∅ 0)
      ⊢ bigSep Finset.univ fun k : Fin 6 => bigSep Finset.univ (At (F := F) c k 0) :=
    (bigSep_with_persistent (Ψ := fun k : Fin 6 × Fin 31 => At (F := F) c k.1 0 k.2) fun k _ => by
      unfold At
      iintro ⟨#HM, H⟩
      isplitl [H]; · iexact H
      iapply (mark_at (F := F) (c, some k)); iexact HM).trans (Entails.of_eq (bigSep_univ_prod _))
  unfold G' Ghost payToks
  rw [bigSep_option]
  iintro ⟨⟨#HI, #HM⟩, ⟨Hb, Hat⟩, Htb, Hts⟩
  iexists K
  isplitr; · iexact HI
  isplitl [Hb Htb]
  · isplitl [Hb]; · iexact Hb
    iapply hbar
    isplitr; · iexact HM
    iexact Htb
  isplitl [Hat]
  · iapply hat
    isplitr; · iexact HM
    iexact Hat
  iexact Hts

/-- Over the mesh: from what every device allocated to what every device starts with. -/
theorem regroup :
    (bigSep Finset.univ fun c : Dev nD => iprop((bigSep Finset.univ fun k => iprop(∃ κ : ℕ, cellInv ER (Rd V) κ (kcell (c, k))))
          ∗ (bigSep Finset.univ fun k => iprop(atPos ER (kcell (c, k)) 0 ∅ 0 ∗ reached ER (kcell (c, k)) 0)) ∗ toks c) : sProp 𝕄)
      ⊢ bigSep Finset.univ (G' V) := by
  rw [bigSep_sep', bigSep_sep', ← bigSep_univ_prod (fun ck : Dev nD × Option (Fin 6 × Fin 31) => iprop(∃ κ : ℕ, cellInv ER (Rd V) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Fin 6 × Fin 31) => (reached ER (kcell ck) 0 : sProp 𝕄))]
  iintro ⟨HI, ⟨Hat, #HR⟩, Htok⟩
  ihave HK := (BI.bigSep_exists_pi Finset.univ (fun (ck : Dev nD × Option (Fin 6 × Fin 31)) (κ : ℕ) => (cellInv ER (Rd V) κ (kcell ck) : sProp 𝕄))) $$ HI
  icases HK with ⟨%K, #HI⟩
  ihave Htk := (toks_around (F := F)) $$ Htok
  iapply (bigSep_with_persistent (R := iprop(Invs V K ∗ Marks)) fun c _ => ghost_intro V K c)
  isplitr
  · isplitl
    · unfold Invs; iexact HI
    unfold Marks; iexact HR
  · iapply (Entails.of_eq (bigSep_sep' Finset.univ (fun c : Dev nD => bigSep Finset.univ fun k => (atPos ER (kcell (c, k)) 0 ∅ 0 : sProp 𝕄)) payToks).symm)
    isplitl [Hat]; · iexact Hat
    iexact Htk

/-- The global step: every device's semaphores at once. -/
theorem glob : (bigSep Finset.univ fun c => iprop(Pipeline.ownSems0 (Ix := ℕ) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The credits -/

/-- Five single credits are one of five. -/
theorem bar_credits (c : Dev nD) : (bigSep Finset.univ fun i : Fin 5 => cred (tallyAt (barCell c) 0 1) : sProp 𝕄) = cred (tallyAt (barCell c) 0 5) := by
  rw [← Pipeline.cred_finsetSum Finset.univ (fun _ : Fin 5 => tallyAt (barCell c) 0 1)]
  congr 1
  simp only [Fin.sum_univ_five, tallyAt_add]

/-- Every device's dues, summed over the devices, are each device's credits. -/
theorem creds (c : Dev nD) : (Pipeline.launchCred (fun d => owed d 0) c : sProp 𝕄) ⊢ Credits c := by
  have h1 : (Pipeline.launchCred (fun d => owed d 0) c : sProp 𝕄) = bigSep Finset.univ fun p : Due => Pipeline.launchCred (fun d => due d p) c := by
    rw [← Pipeline.launchCred_sum]
    refine congrArg (fun O => Pipeline.launchCred O c) (funext fun d => ?_)
    unfold owed
    rw [Finset.filter_true_of_mem fun p _ => Nat.zero_le _]
  have h2 (p : Due) : (Pipeline.launchCred (fun d => due d p) c : sProp 𝕄) ⊢ cred (tallyAt ((c : Thread nD τ), dueSem p) (dueIx p) (dueAmt p)) :=
    Pipeline.launchCred_tallyAt (dueSem p) (fun d => xo d (dueMask p)) (fun d => xo d (dueMask p)) (fun d => xo_xo _ _) (fun d => xo_xo _ _) _ _ c
  rw [h1]
  refine BI.Entails.trans (bigSep_mono fun p _ => h2 p) ?_
  refine (Entails.of_eq (bigSep_univ_sum _)).trans ?_
  unfold Credits
  rw [← bar_credits, bigSep_univ_prod]
  exact BI.Entails.refl _

/-! ## Closing -/

/-- The round a cell ends at. -/
def endRound : Option (Fin 6 × Fin 31) → ℕ
  | none => 1
  | some ks => rounds ks.1.val

/-- A cell has no duties from the round it ends at. -/
theorem duties_end (c : Dev nD) (k : Option (Fin 6 × Fin 31)) : ∀ r, endRound k ≤ r → (Rd V).duties (kcell (c, k)) r = ∅ := by
  rcases k with _ | ⟨k, s⟩
  · exact duties_bar_later V c
  · exact duties_cell_later V c k s

/-- The cells at the end give their semaphores back, at zero. -/
theorem close_all (K : Dev nD × Option (Fin 6 × Fin 31) → ℕ) (c : Dev nD) :
    iprop(Recs V K ∗ CellsEnd c)
      ⊢ (|={Set.univ}=> iprop(unscopedSems0 c ∗ Pipeline.ownSems0 (Ix := ℕ) (Name := ℕ) (U := UU) (Lvl := ℕ) (Val := Elt F) (τ := τ) osem c) : sProp 𝕄) := by
  have h := Rounds.cells_close ER (Rd V) (Finset.univ : Finset (Option (Fin 6 × Fin 31))) (fun k => kcell (c, k)) (fun k => K (c, k))
    (Es := Set.univ) (fun k _ => Set.mem_univ _) (fun k _ h => h) endRound (fun k _ => duties_end V c k)
  rw [sems0_eq] at h
  refine BI.Entails.trans ?_ h
  have h1 : iprop(Recs V K ∗ bigSep Finset.univ fun k => (atPos ER (kcell (c, k)) (endRound k) ∅ 0 : sProp 𝕄))
      ⊢ bigSep Finset.univ fun k => iprop(cellInv ER (Rd V) (K (c, k)) (kcell (c, k)) ∗ atPos ER (kcell (c, k)) (endRound k) ∅ 0) :=
    bigSep_with_persistent fun k _ => by
      iintro ⟨#HI, H⟩
      isplitr; · iapply (inv_at (V := V) K (c, k)); iexact HI
      iexact H
  refine BI.Entails.trans ?_ h1
  have h2 : (bigSep Finset.univ fun k : Fin 6 => bigSep Finset.univ (At (F := F) c k (rounds k.val)))
      ⊢ bigSep Finset.univ fun ks : Fin 6 × Fin 31 => (atPos ER (kcell (c, some ks)) (endRound (some ks)) ∅ 0 : sProp 𝕄) := by
    rw [bigSep_univ_prod]
    exact bigSep_mono fun k _ => bigSep_mono fun s _ => by
      unfold At
      change (_ : sProp 𝕄) ⊢ _
      iintro ⟨H, -⟩; iexact H
  unfold CellsEnd
  rw [bigSep_option]
  change (_ : sProp 𝕄) ⊢ _
  iintro ⟨#HI, Hb, Hc⟩
  isplitr; · iexact HI
  isplitl [Hb]; · iexact Hb
  iapply h2; iexact Hc

end Cert.Butterfly

end
-- ==== Proof.Launch.lean ====
/-
# The run of the kernel

The values every block takes, from the memory the run starts with; the pipeline's proof data; and the run of the whole
mesh.
-/
module

public import proofs.«01_k».proof.Proof.Funds
public import proofs.«01_k».proof.Proof.Gen.KernelIdeal.Launch
public import proofs.«01_k».proof.Proof.Gen.KernelIdeal.Points
public import Idealize.ShloMosaic.Lib.Pipeline.ValueKit
public import Idealize.ShloMosaic.Lib.Pipeline.CollectiveSegs

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The values -/

/-- The partner mask of a scatter round. -/
def rMask : Nat → Fin 32
  | 0 => 1
  | 1 => 8
  | 2 => 2
  | 3 => 4
  | _ => 16

/-- A slot's partner is its round's. -/
theorem rMask_rsPh : ∀ s : Fin 31, rMask (rsPh s).val = rsMask s := by decide

/-- The running sums: each round adds the partner's running sum. -/
def psum (P₀ : Dev nD → Dev nD → Blk F) : Nat → Dev nD → Dev nD → Blk F
  | 0 => P₀
  | r + 1 => fun c b => addPay (psum P₀ r c b) (psum P₀ r (xo c (rMask r)) b)

section Values

variable (x : Dev nD → Blk F) (wi : Fin 3 → Dev nD → Vec F S512x1024 .f32) (wo : Fin 3 → Dev nD → Vec F S1024x512 .f32)

/-- Every device's own share of a layer, block by block, from the gathered blocks `Y`. -/
def own (Y : Dev nD → Blk F) (l : Fin 3) (c b : Dev nD) : Blk F := blkOf (mlp (glueB Y) (wi l c) (wo l c)) b
/-- A layer's result, block by block. -/
def laySum (Y : Dev nD → Blk F) (l : Fin 3) (b : Dev nD) : Blk F := psum (own wi wo Y l) 5 b b

/-- The gathered blocks. -/
def valY : Nat → Dev nD → Blk F
  | 0 => fun c => sameShape (sameShape (x c))
  | l + 1 => fun b =>
    if l < 2 then sameShape (laySum wi wo (valY l) (Fin.ofNat 3 l) b) else laySum wi wo (valY l) (Fin.ofNat 3 l) b

/-- All the values. -/
def vals : Vals F where
  P l := psum (own wi wo (valY x wi wo l) (Fin.ofNat 3 l))
  Y := valY x wi wo

/-- They follow the computation. -/
theorem vals_good : (vals x wi wo).Good x wi wo where
  sums l c s := by
    show addPay _ _ = _
    rw [rMask_rsPh]; rfl
  start c := rfl
  own l c b := by
    have h : Fin.ofNat 3 l.val = l := Fin.ext (Nat.mod_eq_of_lt l.isLt)
    show own wi wo (valY x wi wo l.val) (Fin.ofNat 3 l.val) c b = _
    rw [h]; rfl
  mid l hl c := if_pos hl
  last c := rfl

end Values

variable (m : (ℓ : Loc nD τ sig) → Buf (Elt F) ℓ) (ρ : Dev nD → PrngReg)

/-- The state a run starts from. -/
def s₀ : MemSt nD τ sig (Elt F) := ⟨m, fun _ => 0, ρ⟩

/-- The staged block of `x`. -/
def xAt (c : Dev nD) : Blk F := (win0_0.blk t0_0).view.read (Elt F) ((s₀ m ρ).mem ((c : Thread nD τ).loc main_arg0))
/-- The staged first weights of each layer. -/
def wiAt (l : Fin 3) (c : Dev nD) : Vec F S512x1024 .f32 := match l with
  | ⟨0, _⟩ => (win0_1.blk t0_0).view.read (Elt F) ((s₀ m ρ).mem ((c : Thread nD τ).loc main_arg1))
  | ⟨1, _⟩ => (win0_3.blk t0_0).view.read (Elt F) ((s₀ m ρ).mem ((c : Thread nD τ).loc main_arg2))
  | ⟨2, _⟩ => (win0_5.blk t0_0).view.read (Elt F) ((s₀ m ρ).mem ((c : Thread nD τ).loc main_arg3))
/-- The staged second weights of each layer. -/
def woAt (l : Fin 3) (c : Dev nD) : Vec F S1024x512 .f32 := match l with
  | ⟨0, _⟩ => (win0_2.blk t0_0).view.read (Elt F) ((s₀ m ρ).mem ((c : Thread nD τ).loc main_arg4))
  | ⟨1, _⟩ => (win0_4.blk t0_0).view.read (Elt F) ((s₀ m ρ).mem ((c : Thread nD τ).loc main_arg5))
  | ⟨2, _⟩ => (win0_6.blk t0_0).view.read (Elt F) ((s₀ m ρ).mem ((c : Thread nD τ).loc main_arg6))

/-- The values of the run from `m`. -/
def valsAt : Vals F := vals (xAt m ρ) (wiAt m ρ) (woAt m ρ)
/-- So do those of a run. -/
theorem valsAt_good : (valsAt m ρ).Good (xAt m ρ) (wiAt m ρ) (woAt m ρ) := vals_good _ _ _

/-- The result as every device computes it. -/
def outAt : Vec F S2048x512 .f32 := glueB ((valsAt m ρ).Y 3)

/-! ## The pipeline's proof data -/

/-- What the body starts from: the cells' invariants and the levels, the device's ghost state and its credits. -/
def start (c : Dev nD) : sProp 𝕄 := iprop((∃ K, Recs (valsAt m ρ) K ∗ Ghost c) ∗ Credits c)

/-- The scratch buffers, at any contents. -/
def Scr (c : Dev nD) : sProp 𝕄 := iprop(Any (F := F) c xfM ∗ Any (F := F) c partM ∗ Any (F := F) c stageM)

/-- What the body holds before its one step. -/
def Φ₀ (c : Dev nD) : sProp 𝕄 := iprop(start m ρ c ∗ Scr (F := F) c)
/-- After the body every cell is closed again, its semaphore at zero. -/
def Φ₁ (c : Dev nD) : sProp 𝕄 :=
  iprop(Scr (F := F) c ∗ unscopedSems0 c ∗ Pipeline.ownSems0 (Ix := ℕ) (Name := ℕ) (U := UU) (Lvl := ℕ) (Val := Elt F) (τ := τ) osem c)

/-- The pipeline's proof data: the arrays at the start, the staged blocks after the step, and what the body holds. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xAt m ρ c
    | ⟨1, _⟩ => wiAt m ρ 0 c
    | ⟨2, _⟩ => woAt m ρ 0 c
    | ⟨3, _⟩ => wiAt m ρ 1 c
    | ⟨4, _⟩ => woAt m ρ 1 c
    | ⟨5, _⟩ => wiAt m ρ 2 c
    | ⟨6, _⟩ => woAt m ρ 2 c
    | ⟨7, _⟩ => outAt m ρ
  Φ t := match t with
    | ⟨0, _⟩ => Φ₀ m ρ c
    | ⟨_ + 1, _⟩ => Φ₁ c
  q _ := fullShare
  owed t := match t with
    | ⟨0, _⟩ => owed c 0
    | ⟨_ + 1, _⟩ => 0

/-- The staged input block, when the body starts; -/
theorem before_0 (c : Dev nD) (d) : (dats m ρ 0 c).before 0 t0_0 d = xAt m ρ c := by unfold Dat.before; rw [if_pos (fetch0_0 t0_0)]; rfl
/-- the first layer's first weights, -/
theorem before_1 (c : Dev nD) (d) : (dats m ρ 0 c).before 1 t0_0 d = wiAt m ρ 0 c := by unfold Dat.before; rw [if_pos (fetch0_1 t0_0)]; rfl
/-- its second weights, -/
theorem before_2 (c : Dev nD) (d) : (dats m ρ 0 c).before 2 t0_0 d = woAt m ρ 0 c := by unfold Dat.before; rw [if_pos (fetch0_2 t0_0)]; rfl
/-- the second layer's first -/
theorem before_3 (c : Dev nD) (d) : (dats m ρ 0 c).before 3 t0_0 d = wiAt m ρ 1 c := by unfold Dat.before; rw [if_pos (fetch0_3 t0_0)]; rfl
/-- and second weights, -/
theorem before_4 (c : Dev nD) (d) : (dats m ρ 0 c).before 4 t0_0 d = woAt m ρ 1 c := by unfold Dat.before; rw [if_pos (fetch0_4 t0_0)]; rfl
/-- and the third layer's first -/
theorem before_5 (c : Dev nD) (d) : (dats m ρ 0 c).before 5 t0_0 d = wiAt m ρ 2 c := by unfold Dat.before; rw [if_pos (fetch0_5 t0_0)]; rfl
/-- and second weights. -/
theorem before_6 (c : Dev nD) (d) : (dats m ρ 0 c).before 6 t0_0 d = woAt m ρ 2 c := by unfold Dat.before; rw [if_pos (fetch0_6 t0_0)]; rfl

/-! ## The body -/

/-- All that the body starts with, -/
def bodyPre (c : Dev nD) : sProp 𝕄 :=
  iprop(Φ₀ m ρ c ∗ (dats m ρ 0 c).owesAt 0 t0_0.castSucc
    ∗ (∃ d, ownsTc c xM fullShare ((dats m ρ 0 c).before 0 t0_0 d))
    ∗ (∃ d, ownsTc c (wiM 0) fullShare ((dats m ρ 0 c).before 1 t0_0 d))
    ∗ (∃ d, ownsTc c (woM 0) fullShare ((dats m ρ 0 c).before 2 t0_0 d))
    ∗ (∃ d, ownsTc c (wiM 1) fullShare ((dats m ρ 0 c).before 3 t0_0 d))
    ∗ (∃ d, ownsTc c (woM 1) fullShare ((dats m ρ 0 c).before 4 t0_0 d))
    ∗ (∃ d, ownsTc c (wiM 2) fullShare ((dats m ρ 0 c).before 5 t0_0 d))
    ∗ (∃ d, ownsTc c (woM 2) fullShare ((dats m ρ 0 c).before 6 t0_0 d))
    ∗ (∃ d, ownsTc c outM fullShare ((dats m ρ 0 c).before 7 t0_0 d)))
/-- and all that it leaves. -/
def bodyPost (c : Dev nD) : sProp 𝕄 :=
  iprop(Φ₁ (F := F) c ∗ (dats m ρ 0 c).owesAt 0 t0_0.succ
    ∗ ownsTc c xM fullShare (xAt m ρ c)
    ∗ ownsTc c (wiM 0) fullShare (wiAt m ρ 0 c) ∗ ownsTc c (woM 0) fullShare (woAt m ρ 0 c)
    ∗ ownsTc c (wiM 1) fullShare (wiAt m ρ 1 c) ∗ ownsTc c (woM 1) fullShare (woAt m ρ 1 c)
    ∗ ownsTc c (wiM 2) fullShare (wiAt m ρ 2 c) ∗ ownsTc c (woM 2) fullShare (woAt m ρ 2 c)
    ∗ ownsTc c outM fullShare (outAt m ρ))

/-- The body runs from the one to the other. -/
theorem sound_body (c : Dev nD) :
    bodyPre m ρ c ⊢ WP c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_stg6_0) (Memref.isWhole_whole _) (Memref.whole cc0_stg7_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 cc0_scratch7 cc0_scratch8) (fun _ => bodyPost m ρ c) := by
  rw [body_eq]
  unfold bodyPre Φ₀ start Scr
  iintro ⟨⟨⟨⟨%K, #HI, HG⟩, HC⟩, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0, before_1, before_2, before_3, before_4, before_5, before_6]
  unfold Dat.owesAt Pipeline.owesWithin
  icases Ho with ⟨%W, %hW, HO⟩
  unfold WP
  iapply wp_fupd
  iapply wp_wand_r
  isplitl [HG HC HO HS H0 H1 H2 H3 H4 H5 H6 H7]
  · iapply (body_wp K c (valsAt_good m ρ))
    isplitr; · iexact HI
    isplitl [HG]; · iexact HG
    isplitl [HC]; · iexact HC
    isplitl [HO]; · unfold Ow; iexists W; iexact HO
    isplitl [HS]; · iexact HS
    isplitl [H0]; · iexact H0
    unfold Wts
    isplitl [H1 H2]
    · isplitl [H1]; · iexact H1
      iexact H2
    isplitl [H3 H4]
    · isplitl [H3]; · iexact H3
      iexact H4
    isplitl [H5 H6]
    · isplitl [H5]; · iexact H5
      iexact H6
    unfold Any; iexists _; iexact H7
  iintro %_ ⟨HE, HO, HS, H0, HW0, HW1, HW2, H7⟩
  unfold Wts Ow
  icases HO with ⟨%W', HO⟩
  icases HW0 with ⟨H1, H2⟩
  icases HW1 with ⟨H3, H4⟩
  icases HW2 with ⟨H5, H6⟩
  imod (close_all (valsAt m ρ) K c) $$ [HE] with ⟨Hus, Hos⟩
  · isplitr; · iexact HI
    iexact HE
  imodintro
  unfold bodyPost Φ₁ Scr
  isplitl [HS Hus Hos]
  · isplitl [HS]; · iexact HS
    isplitl [Hus]; · iexact Hus
    iexact Hos
  isplitl [HO]
  · unfold Dat.owesAt Pipeline.owesWithin
    iexists W'
    isplitr; · ipureintro; exact fun _ _ => Or.inl trivial
    rw [owed_all]; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxRecDepth 100000 in
/-- The library's body obligation on device `c`. -/
theorem body_obligation (c : Dev nD) : BodyObligation (dats (F := F) m ρ 0 c) (defs₀ (F := F)) 𝒱₀ 0 Set.univ := fun t => by
  rw [fin_N0 t, bigSep_W0, bigSep_W0]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_stg6_0) (Memref.isWhole_whole _) (Memref.whole cc0_stg7_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 cc0_scratch7 cc0_scratch8) (fun _ => bodyPost m ρ c)
  exact sound_body m ρ c

/-! ## The launch -/

/-- Every window's array is held whole. -/
theorem share_eq (c : Dev nD) (w : Fin cfg0.W) : (dats m ρ 0 c).share w = fullShare := by unfold Dat.share; split <;> rfl

/-- The launch's ghost element: the pipeline's and the butterflies'. -/
def u₀ : UU :=
  (initOf (Pipeline.cells cfgs cellOf_inj) (Pipeline.launchToks cfgs cellOf_inj), initOf allCells allToks)

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' (valsAt m ρ) c)
      ⊢ |={Set.univ}=> iprop(start m ρ c ∗ emp) := by
  unfold G'
  iintro ⟨-, Hlev, Hcr, -, ⟨%K, HI, HG⟩⟩
  ihave Hc := (creds (F := F) c) $$ Hcr
  imodintro
  unfold start Recs Invs
  isplitl
  · isplitl [HI HG Hlev]
    · iexists K
      isplitl [HI Hlev]
      · isplitl [HI]; · iexact HI
        iexact Hlev
      iexact HG
    iexact Hc
  · iempintro

/-- A whole buffer held at anything, in the two ways to say it. -/
theorem any_whole (c : Dev nD) (b : Ref sig .tc) :
    (iprop(∃ X, owns (Ix := ℕ) (Name := ℕ) (U := UU) (Lvl := ℕ) (c : Thread nD τ) (Memref.whole b) fullShare X) : sProp 𝕄)
      = iprop(∃ f : Buf (Elt F) ((c : Thread nD τ).loc b), ((c : Thread nD τ).loc b) ↦{fullShare} f) := by
  unfold owns; simp only [Memref.view_whole, View.read_whole, View.set_whole]
  refine BI.equiv_iff.mp ⟨?_, ?_⟩
  · change (_ : sProp 𝕄) ⊢ _
    iintro ⟨%X, %f, -, H⟩; iexists f; iexact H
  · change (_ : sProp 𝕄) ⊢ _
    iintro ⟨%f, H⟩; iexists f; iexists f; isplitr; · ipureintro; rfl
    iexact H

/-- The scratch buffers are the launch's. -/
theorem scr_eq (c : Dev nD) :
    (Scr c : sProp 𝕄) = Pipeline.scopedRest (Ix := ℕ) (Name := ℕ) (U := UU) (Lvl := ℕ) (Val := Elt F) cfg0.spec c := by
  rw [scopedRest0_eq, ← any_whole, ← any_whole, ← any_whole]; rfl

/-- With the scratch buffers, it is what the body holds before the step. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scr_eq]
  unfold Φ₀
  iintro ⟨Hs, -, Hr⟩
  isplitl [Hs]; · iexact Hs
  iexact Hr

/-- After the step the semaphores and the scratch buffers go back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scr_eq]
  unfold Φ₁
  iintro ⟨Hr, Hu, Ho⟩
  isplitl [Hu]; · iexact Hu
  isplitl [Ho]; · iexact Ho
  iexact Hr

/-- The pipeline's own waits are allowed: they are below everything owed. -/
theorem waits (c : Dev nD) : (levAts L lv : sProp 𝕄) ⊢ Pipeline.cellsWaits cfgs (dats m ρ) 0 0 c :=
  Pipeline.cellsWaits_intro cfgs (dats m ρ) 0 0 c fun w s t => by
    have hq : ∀ (w : Fin cfg0.W) (s : Fin (cfg0.spec w).nbuf), ((cfg0.spec w).sem s).val < 8 := by decide
    rcases t with ⟨_ | _, ht⟩
    · refine mayWait c _ 0 0 (by decide) fun p _ => ?_
      rw [lv_stage c _ (hq w s)]
      rcases p with i | ⟨j, s⟩ <;> simp only [dueLv] <;> omega
    · show _ ⊢ MayWait _ _ _ 0
      rw [MayWait_zero]; iintro -; iempintro

/-! ## The run -/

/-- An array at the end. -/
def finalA (c : Dev nD) (w : Fin cfg0.W) : Buf (Elt F) ((cfg0.win w).arr.view.loc (c : Thread nD τ)) := (dats m ρ 0 c).arrAt w cfg0.N

/-- Every array of every device is at its end contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with every semaphore at zero: every weakly fair execution of @main on the mesh
    terminates, with every device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owed c 0) (howed₀ := fun _ => rfl) (howedN := fun _ => rfl)
    (L := L) (lv := lv) (hL := L_of_ne) (hwaits := waits m ρ)
    (G := G (valsAt m ρ)) (G' := G' (valsAt m ρ)) (u₀ := u₀)
    (hu₀ := by
      unfold u₀
      iintro Hu
      ihave H := (ownU_pair _ _) $$ Hu
      icases H with ⟨HP, HX⟩
      imod (fund_all (valsAt m ρ)) $$ HX with HG
      imodintro
      isplitl [HP] <;> iassumption)
    (hglob := glob (valsAt m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's array ends at the computed result. -/
theorem finalA_out (c : Dev nD) : finalA m ρ c (7 : Fin 8) = outAt m ρ := by
  refine (dats m ρ 0 c).arrAt_eq_of_after_last 7 t0_0 (by decide +kernel) _ fun j => ?_
  blk_simp
  rfl

/-- The staged blocks are the argument arrays whole. -/
theorem xAt_eq (c : Dev nD) : xAt m ρ c = m ((c : Thread nD τ).loc main_arg0) :=
  funext fun i => congrArg (m ((c : Thread nD τ).loc main_arg0)) (funext fun a => Fin.ext
    (Window.rect_emb_val_of_index_zero win0_0 t0_0 a (by fin_cases a <;> decide) i))
/-- The staged weights are the arguments: first weights of layer 0, -/
theorem wiAt0_eq (c : Dev nD) : wiAt m ρ 0 c = m ((c : Thread nD τ).loc main_arg1) :=
  funext fun i => congrArg (m ((c : Thread nD τ).loc main_arg1)) (funext fun a => Fin.ext
    (Window.rect_emb_val_of_index_zero win0_1 t0_0 a (by fin_cases a <;> decide) i))
/-- layer 1, -/
theorem wiAt1_eq (c : Dev nD) : wiAt m ρ 1 c = m ((c : Thread nD τ).loc main_arg2) :=
  funext fun i => congrArg (m ((c : Thread nD τ).loc main_arg2)) (funext fun a => Fin.ext
    (Window.rect_emb_val_of_index_zero win0_3 t0_0 a (by fin_cases a <;> decide) i))
/-- layer 2; -/
theorem wiAt2_eq (c : Dev nD) : wiAt m ρ 2 c = m ((c : Thread nD τ).loc main_arg3) :=
  funext fun i => congrArg (m ((c : Thread nD τ).loc main_arg3)) (funext fun a => Fin.ext
    (Window.rect_emb_val_of_index_zero win0_5 t0_0 a (by fin_cases a <;> decide) i))
/-- second weights of layer 0, -/
theorem woAt0_eq (c : Dev nD) : woAt m ρ 0 c = m ((c : Thread nD τ).loc main_arg4) :=
  funext fun i => congrArg (m ((c : Thread nD τ).loc main_arg4)) (funext fun a => Fin.ext
    (Window.rect_emb_val_of_index_zero win0_2 t0_0 a (by fin_cases a <;> decide) i))
/-- layer 1, -/
theorem woAt1_eq (c : Dev nD) : woAt m ρ 1 c = m ((c : Thread nD τ).loc main_arg5) :=
  funext fun i => congrArg (m ((c : Thread nD τ).loc main_arg5)) (funext fun a => Fin.ext
    (Window.rect_emb_val_of_index_zero win0_4 t0_0 a (by fin_cases a <;> decide) i))
/-- layer 2. -/
theorem woAt2_eq (c : Dev nD) : woAt m ρ 2 c = m ((c : Thread nD τ).loc main_arg6) :=
  funext fun i => congrArg (m ((c : Thread nD τ).loc main_arg6)) (funext fun a => Fin.ext
    (Window.rect_emb_val_of_index_zero win0_6 t0_0 a (by fin_cases a <;> decide) i))

/-- What every run ends in: on every device the result is the computed one and the arguments are what they were; every
    semaphore is at zero. -/
theorem run_results : θ_run defs (onTc (τ := τ) (main (F := F))) (s₀ m ρ) (fun r =>
    (∀ c : Dev nD, r.2.mem ((c : Thread nD τ).loc main_v1) = outAt m ρ
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0) := by
  refine (θ_run defs _ _).mono (fun r h => ⟨fun c => ?_, h.2⟩) (run_main m ρ)
  have hin (w : Fin 8) (hw : (cfg0.win w).isOut = false) := (h.1 c w).trans ((dats (F := F) m ρ 0 c).arrAt_in w hw _)
  exact ⟨(h.1 c 7).trans (finalA_out m ρ c), hin 0 rfl, hin 1 rfl, hin 3 rfl, hin 5 rfl, hin 2 rfl, hin 4 rfl, hin 6 rfl⟩

end Cert.Butterfly

end
-- ==== Proof.Frames.lean ====
/-
# The frames

Each program runs, leaves its arguments unchanged, and ends with every semaphore at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Butterfly

open Idealize.ShloMosaic Idealize.ShloMosaic.TcCoe Idealize.SL.Sem

/-- What a frame of the kernel says, over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4)
        ∧ r.2.mem ((c : Thread Cert.KernelIdeal.nD Cert.KernelIdeal.τ).loc Cert.KernelIdeal.main_arg5) = m ((c : Thread Cert.KernelIdeal.nD Cert.KernelIdeal.τ).loc Cert.KernelIdeal.main_arg5)
        ∧ r.2.mem ((c : Thread Cert.KernelIdeal.nD Cert.KernelIdeal.τ).loc Cert.KernelIdeal.main_arg6) = m ((c : Thread Cert.KernelIdeal.nD Cert.KernelIdeal.τ).loc Cert.KernelIdeal.main_arg6))
      ∧ r.2.sem = fun _ => 0) :=
  (θ_run Cert.KernelIdeal.defs _ _).mono (fun _ h => ⟨fun c => (h.1 c).2, h.2⟩) (run_results m ρ)

/-- The idealized kernel runs, its arguments end unchanged and every semaphore ends at zero. -/
theorem frame_kernelIdeal : Cert.quiescent_KernelIdeal := fun m ρ _ => frame_any (F := Ideal) m ρ

/-- The two printed kernels are the same text, so their tables of bodies are one and the same. -/
theorem defs_eq {F : FTy → Type} [FloatOps F] : Cert.Kernel.defs (F := F) = Cert.KernelIdeal.defs (F := F) := by
  chain_rfl

/-- So does the kernel as printed. -/
theorem frame_kernel : Cert.quiescent_Kernel := fun m ρ _ => by
  rw [defs_eq]
  exact frame_any (F := Bits) m ρ

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Butterfly

end
-- ==== Proof.Values.lean ====
/-
# What the kernel computes

Over the reals with infinities. One device's share of a layer is a sum over its 1024 hidden units; the rounds of the
scatter add the shares of all thirty-two devices; together that is the reference's layer, a sum over all 32768 hidden
units.
-/
module

public import proofs.«01_k».proof.Proof.Launch
public import proofs.«01_k».proof.Proof.Gen.ReferenceIdeal
public import Idealize.ShloMosaic.Lib.Layout
public import Idealize.ShloMosaic.Lib.Pointwise
public import Idealize.ShloMosaic.PureOps.Ideal

@[expose] public section

noncomputable section

namespace Cert.Butterfly

open Cert.KernelIdeal Cert.KernelIdeal.Gen
open Idealize.ShloMosaic

/-! ## One device's share -/

/-- A device's share of a layer, at an index: a sum over its own hidden units. -/
theorem mlp_apply (x : Vec Ideal S2048x512 .f32) (wi : Vec Ideal S512x1024 .f32) (wo : Vec Ideal S1024x512 .f32) (i : S2048x512.Idx) :
    mlp x wi wo i = ∑ k : Fin 1024, max (∑ j : Fin 512, (x (ix2 (i 0) j) : EReal) * wi (ix2 j k)) 0 * wo (ix2 k (i 1)) := by
  pointwise [mlp]

/-! ## The whole layer -/

/-- First weights of the whole layer, as the reference takes them, -/
abbrev BigIn : Type := (⟨2, ![512, 32768]⟩ : Shape).Idx → EReal
/-- and second weights. -/
abbrev BigOut : Type := (⟨2, ![32768, 512]⟩ : Shape).Idx → EReal

/-- The reference's layer: a product, the positive part, a product. -/
def refLayer (x : Vec Ideal S2048x512 .f32) (wi : BigIn) (wo : BigOut) : Vec Ideal S2048x512 .f32 :=
  Host.dotGeneral (F := Ideal) (φ₁ := .f32) (φ₂ := .f32) Cert.ReferenceIdeal.dot_S2048x32768_S32768x512_S2048x512_1_0_0_1_n_n none
    (maximumf (F := Ideal) (φ := .f32)
      (Host.dotGeneral (F := Ideal) (φ₁ := .f32) (φ₂ := .f32) Cert.ReferenceIdeal.dot_S2048x512_S512x32768_S2048x32768_1_0_0_1_n_n none x wi)
      (broadcastInDim Cert.ReferenceIdeal.S2048x32768 ![] Cert.ReferenceIdeal.Facts₀.bcast_S_S2048x32768
        (constant (F := Ideal) Cert.ReferenceIdeal.S_ .f32 0x00000000#32)))
    wo

/-- At an index, a sum over all hidden units. -/
theorem refLayer_apply (x : Vec Ideal S2048x512 .f32) (wi : BigIn) (wo : BigOut) (i : S2048x512.Idx) :
    refLayer x wi wo i = ∑ k : Fin 32768, max (∑ j : Fin 512, (x (ix2 (i 0) j) : EReal) * wi (ix2 j k)) 0 * wo (ix2 k (i 1)) := by
  pointwise [refLayer]

/-- The hidden units that device `c` holds: first weights, -/
abbrev inAt (wi : BigIn) (c : Dev nD) : Vec Ideal S512x1024 .f32 := Layout.block ⟨2, ![512, 1024]⟩ ⟨2, ![512, 32768]⟩ 1 32 c wi
/-- and second weights. -/
abbrev outAtOf (wo : BigOut) (c : Dev nD) : Vec Ideal S1024x512 .f32 := Layout.block ⟨2, ![1024, 512]⟩ ⟨2, ![32768, 512]⟩ 0 32 c wo

/-- A sum over all hidden units is the sum of the devices' sums. -/
theorem sum_units (f : Fin 32768 → EReal) :
    ∑ k, f k = ∑ c : Fin 32, ∑ k : Fin 1024, f ⟨c.val * 1024 + k.val, by omega⟩ := by
  have h := (Equiv.sum_comp (finProdFinEquiv (m := 32) (n := 1024)) f).symm
  refine h.trans ((Fintype.sum_prod_type _).trans ?_)
  refine Finset.sum_congr rfl fun c _ => Finset.sum_congr rfl fun k _ => congrArg f (Fin.ext ?_)
  show k.val + 1024 * c.val = c.val * 1024 + k.val
  omega

/-- A layer is the sum of the devices' shares. -/
theorem refLayer_eq_sum (x : Vec Ideal S2048x512 .f32) (wi : BigIn) (wo : BigOut) (i : S2048x512.Idx) :
    refLayer x wi wo i = ∑ c : Dev nD, (mlp x (inAt wi c) (outAtOf wo c) i : EReal) := by
  rw [refLayer_apply, sum_units]
  refine Finset.sum_congr rfl fun c _ => ?_
  rw [mlp_apply]
  refine Finset.sum_congr rfl fun k _ => ?_
  have hi : ∀ j : Fin 512, inAt wi c (ix2 j k) = wi (ix2 j ⟨c.val * 1024 + k.val, by have := c.isLt; omega⟩) := fun j =>
    congrArg wi (funext fun a => by fin_cases a <;> rfl)
  have ho : outAtOf wo c (ix2 k (i 1)) = wo (ix2 ⟨c.val * 1024 + k.val, by have := c.isLt; omega⟩ (i 1)) :=
    congrArg wo (funext fun a => by fin_cases a <;> rfl)
  simp only [hi, ho]

/-! ## The scatter's rounds -/

/-- The relative numbers of the devices whose shares a running sum holds. -/
def reach : Nat → Finset (Fin 32)
  | 0 => {0}
  | r + 1 => reach r ∪ (reach r).image (· ^^^ rMask r)

/-- A round reaches devices not reached before; -/
theorem reach_disj : ∀ r < 5, Disjoint (reach r) ((reach r).image (· ^^^ rMask r)) := by decide
/-- five rounds reach all. -/
theorem reach_five : reach 5 = Finset.univ := by decide
/-- A device's relative number seen from a round's partner; -/
theorem xo_step : ∀ (r : Fin 5) (c : Dev nD) (s : Fin 32), xo (xo c (rMask r)) s = xo c (s ^^^ rMask r) := by decide +kernel
/-- different numbers stay different. -/
theorem xor_inj : ∀ (r : Fin 5) (s s' : Fin 32), s ^^^ rMask r = s' ^^^ rMask r → s = s' := by decide +kernel

/-- A running sum holds the shares of the devices in reach. -/
theorem psum_apply (P : Dev nD → Dev nD → Blk Ideal) (b : Dev nD) (j : S64x512.Idx) :
    ∀ r ≤ 5, ∀ c, (psum P r c b j : EReal) = ∑ s ∈ reach r, (P (xo c s) b j : EReal)
  | 0, _, c => by
    show (P c b j : EReal) = ∑ s ∈ {0}, (P (xo c s) b j : EReal)
    rw [Finset.sum_singleton, xo_zero]
  | r + 1, h, c => by
    have hs : (psum P (r + 1) c b j : EReal) = (psum P r c b j : EReal) + psum P r (xo c (rMask r)) b j := by
      show addPay _ _ j = _
      pointwise [addPay]
    rw [hs, psum_apply P b j r (by omega) c, psum_apply P b j r (by omega) (xo c (rMask r))]
    show _ = ∑ s ∈ reach r ∪ (reach r).image (· ^^^ rMask r), (P (xo c s) b j : EReal)
    rw [Finset.sum_union (reach_disj r (by omega)), Finset.sum_image fun s _ s' _ e => xor_inj ⟨r, by omega⟩ s s' e]
    refine congrArg _ (Finset.sum_congr rfl fun s _ => ?_)
    rw [xo_step ⟨r, by omega⟩ c s]

/-- After five rounds it holds every device's. -/
theorem psum_all (P : Dev nD → Dev nD → Blk Ideal) (b : Dev nD) (j : S64x512.Idx) :
    (psum P 5 b b j : EReal) = ∑ c : Dev nD, (P c b j : EReal) := by
  rw [psum_apply P b j 5 le_rfl b, reach_five]
  exact (rel b).sum_comp fun c => (P c b j : EReal)

/-! ## The layers -/

variable {x : Dev nD → Blk Ideal} {wi : Fin 3 → Dev nD → Vec Ideal S512x1024 .f32} {wo : Fin 3 → Dev nD → Vec Ideal S1024x512 .f32}

/-- A layer's result, from the gathered blocks, is the reference's layer. -/
theorem laySum_eq (Y : Dev nD → Blk Ideal) (l : Fin 3) (Wi : BigIn) (Wo : BigOut) (hi : ∀ c, wi l c = inAt Wi c)
    (ho : ∀ c, wo l c = outAtOf Wo c) (b : Dev nD) : laySum wi wo Y l b = blkOf (refLayer (glueB Y) Wi Wo) b := by
  funext j
  refine (psum_all _ b j).trans ?_
  show _ = refLayer (glueB Y) Wi Wo ((blkR b).emb j)
  rw [refLayer_eq_sum]
  refine Finset.sum_congr rfl fun c _ => ?_
  show mlp (glueB Y) (wi l c) (wo l c) ((blkR b).emb j) = _
  rw [hi, ho]

/-- A cast to the same shape changes nothing. -/
theorem sameShape_eq (a : Blk Ideal) : sameShape a = a := shapeCast_self _ _

/-- The gathered buffer after a layer is the reference's layer of the buffer before. -/
theorem glue_step (l : Fin 3) (Wi : BigIn) (Wo : BigOut) (hi : ∀ c, wi l c = inAt Wi c) (ho : ∀ c, wo l c = outAtOf Wo c) :
    glueB (valY x wi wo (l.val + 1)) = refLayer (glueB (valY x wi wo l.val)) Wi Wo := by
  refine glueB_ext fun b => ?_
  rw [blkOf_glueB, ← laySum_eq (wi := wi) (wo := wo) (valY x wi wo l.val) l Wi Wo hi ho b]
  have h : Fin.ofNat 3 l.val = l := Fin.ext (Nat.mod_eq_of_lt l.isLt)
  show (if l.val < 2 then sameShape (laySum wi wo (valY x wi wo l.val) (Fin.ofNat 3 l.val) b) else laySum wi wo (valY x wi wo l.val) (Fin.ofNat 3 l.val) b) = _
  rw [h, sameShape_eq, ite_self]

/-- The first gather collects the whole input. -/
theorem glue_start (X : Vec Ideal S2048x512 .f32) (hx : ∀ c, x c = Layout.block ⟨2, ![64, 512]⟩ ⟨2, ![2048, 512]⟩ 0 32 c X) :
    glueB (valY x wi wo 0) = X := by
  refine glueB_ext fun b => ?_
  rw [blkOf_glueB]
  show sameShape (sameShape (x b)) = _
  rw [sameShape_eq, sameShape_eq, hx]
  funext j
  refine congrArg X (funext fun a => Fin.ext ?_)
  fin_cases a
  · show b.val * 64 + (j 0).val = 64 * b.val + 1 * (j 0).val
    omega
  · show (j 1).val = 0 + 1 * (j 1).val
    omega

/-- Three layers, one after another. -/
def three (X : Vec Ideal S2048x512 .f32) (Wi0 Wi1 Wi2 : BigIn) (Wo0 Wo1 Wo2 : BigOut) : Vec Ideal S2048x512 .f32 :=
  refLayer (refLayer (refLayer X Wi0 Wo0) Wi1 Wo1) Wi2 Wo2

/-- **What the kernel computes**: from the whole input's blocks, the three layers of the whole input. -/
theorem glue_three (X : Vec Ideal S2048x512 .f32) (Wi0 Wi1 Wi2 : BigIn) (Wo0 Wo1 Wo2 : BigOut)
    (hx : ∀ c, x c = Layout.block ⟨2, ![64, 512]⟩ ⟨2, ![2048, 512]⟩ 0 32 c X)
    (hi0 : ∀ c, wi 0 c = inAt Wi0 c) (hi1 : ∀ c, wi 1 c = inAt Wi1 c) (hi2 : ∀ c, wi 2 c = inAt Wi2 c)
    (ho0 : ∀ c, wo 0 c = outAtOf Wo0 c) (ho1 : ∀ c, wo 1 c = outAtOf Wo1 c) (ho2 : ∀ c, wo 2 c = outAtOf Wo2 c) :
    glueB (valY x wi wo 3) = three X Wi0 Wi1 Wi2 Wo0 Wo1 Wo2 := by
  have h0 := glue_start (wi := wi) (wo := wo) X hx
  have h1 := glue_step (x := x) 0 Wi0 Wo0 hi0 ho0
  have h2 := glue_step (x := x) 1 Wi1 Wo1 hi1 ho1
  have h3 := glue_step (x := x) 2 Wi2 Wo2 hi2 ho2
  unfold three
  rw [← h0]
  exact h3.trans (congrArg (refLayer · Wi2 Wo2) (h2.trans (congrArg (refLayer · Wi1 Wo1) h1)))

end Cert.Butterfly

end
-- ==== Proof.Equation.lean ====
/-
# Kernel and reference compute the same function

From blocks of one set of whole arrays, every device of the kernel ends with the array that the reference computes.
-/
module

public import proofs.«01_k».proof.Defs
public import proofs.«01_k».proof.Proof.Values
public import proofs.«01_k».proof.Proof.Gen.ReferenceIdeal.Run

@[expose] public section

noncomputable section

namespace Cert.Butterfly

open Idealize.ShloMosaic Idealize.ShloMosaic.TcCoe Idealize.SL.Sem

/-- What the reference's run leaves is the three layers of its arguments; the kernel's result, from the blocks of the
same arguments, is the same on every device. -/
theorem algebraic : Cert.algebraic_KernelIdeal_ReferenceIdeal := fun m ρ m' ρ' _ hb => by
  have hout : outAt m ρ = _ := glue_three _ _ _ _ _ _ _
      (fun c => (xAt_eq m ρ c).trans (hb c).1)
      (fun c => (wiAt0_eq m ρ c).trans (hb c).2.1)
      (fun c => (wiAt1_eq m ρ c).trans (hb c).2.2.1)
      (fun c => (wiAt2_eq m ρ c).trans (hb c).2.2.2.1)
      (fun c => (woAt0_eq m ρ c).trans (hb c).2.2.2.2.1)
      (fun c => (woAt1_eq m ρ c).trans (hb c).2.2.2.2.2.1)
      (fun c => (woAt2_eq m ρ c).trans (hb c).2.2.2.2.2.2)
  refine ⟨_, (θ_run Cert.KernelIdeal.defs _ _).mono (fun r h c => ⟨((h.1 c).1).trans hout, (h.1 c).2⟩) (run_results (F := Ideal) m ρ),
    (θ_run Cert.ReferenceIdeal.defs _ _).mono (fun r h => ⟨(h 0).1.trans ?_, (h 0).2⟩) (Cert.ReferenceIdeal.Value.run (F := Ideal) m' ρ')⟩
  rfl

end Cert.Butterfly

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything this directory claims: the three frames, the two kernels the same program, and kernel and reference the
same function over the extended reals. -/
theorem claim : Cert.Claim := ⟨Cert.Kernel.Gen.facts, Cert.KernelIdeal.Gen.facts, Cert.ReferenceIdeal.Gen.facts,
  Cert.Butterfly.frame_kernel, Cert.Butterfly.frame_kernelIdeal, Cert.Butterfly.frame_reference, trivial,
  Cert.Butterfly.algebraic⟩

end Cert.Proof

end
